-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = Layout.block ⟨4, ![2, 256, 8, 64]⟩ ⟨4, ![2, 4096, 8, 64]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨4, ![2, 256, 8, 64]⟩ ⟨4, ![2, 4096, 8, 64]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 256, 8, 64]⟩ ⟨4, ![2, 4096, 8, 64]⟩ 1 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Layout.block ⟨4, ![2, 256, 8, 64]⟩ ⟨4, ![2, 4096, 8, 64]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S2x256x8x64 : Shape := ⟨4, ![2, 256, 8, 64]⟩
abbrev S_ : Shape := ⟨0, ![]⟩

class Facts : Prop where
  bcast_S_S2x256x8x64 : S_.BroadcastsInDim S2x256x8x64 (![] : Fin 0 → Fin S2x256x8x64.rank)

variable [Facts]

def fn {F : FTy → Type} [FloatOps F] (main_arg0 : FVec F S2x256x8x64 .f32) (main_arg1 : FVec F S2x256x8x64 .f32) (main_arg2 : FVec F S2x256x8x64 .f32) : IVec S2x256x8x64 1 :=
  let main_v0 : FVec F S2x256x8x64 .f32 := Host.absf main_arg0
  let main_cst : FVec F S_ .f32 := constant S_ .f32 0x7F800000#32
  let main_v1 : FVec F S2x256x8x64 .f32 := broadcastInDim S2x256x8x64 ![] bcast_S_S2x256x8x64 main_cst
  let main_v2 : IVec S2x256x8x64 1 := cmpf .olt main_v0 main_v1
  let main_v3 : FVec F S2x256x8x64 .f32 := Host.absf main_arg1
  let main_cst_0 : FVec F S_ .f32 := constant S_ .f32 0x7F800000#32
  let main_v4 : FVec F S2x256x8x64 .f32 := broadcastInDim S2x256x8x64 ![] bcast_S_S2x256x8x64 main_cst_0
  let main_v5 : IVec S2x256x8x64 1 := cmpf .olt main_v3 main_v4
  let main_v6 : IVec S2x256x8x64 1 := andi main_v2 main_v5
  main_v6
-- ==== Pre_finite_qk_ReferenceIdeal.lean ====
abbrev S2x4096x8x64 : Shape := ⟨4, ![2, 4096, 8, 64]⟩
abbrev S_ : Shape := ⟨0, ![]⟩

class Facts : Prop where
  bcast_S_S2x4096x8x64 : S_.BroadcastsInDim S2x4096x8x64 (![] : Fin 0 → Fin S2x4096x8x64.rank)

variable [Facts]

def fn {F : FTy → Type} [FloatOps F] (main_arg0 : FVec F S2x4096x8x64 .f32) (main_arg1 : FVec F S2x4096x8x64 .f32) (main_arg2 : FVec F S2x4096x8x64 .f32) : IVec S2x4096x8x64 1 :=
  let main_v0 : FVec F S2x4096x8x64 .f32 := Host.absf main_arg0
  let main_cst : FVec F S_ .f32 := constant S_ .f32 0x7F800000#32
  let main_v1 : FVec F S2x4096x8x64 .f32 := broadcastInDim S2x4096x8x64 ![] bcast_S_S2x4096x8x64 main_cst
  let main_v2 : IVec S2x4096x8x64 1 := cmpf .olt main_v0 main_v1
  let main_v3 : FVec F S2x4096x8x64 .f32 := Host.absf main_arg1
  let main_cst_0 : FVec F S_ .f32 := constant S_ .f32 0x7F800000#32
  let main_v4 : FVec F S2x4096x8x64 .f32 := broadcastInDim S2x4096x8x64 ![] bcast_S_S2x4096x8x64 main_cst_0
  let main_v5 : IVec S2x4096x8x64 1 := cmpf .olt main_v3 main_v4
  let main_v6 : IVec S2x4096x8x64 1 := andi main_v2 main_v5
  main_v6
-- ==== Kernel.lean ====
abbrev S2x256x8x64 : Shape := ⟨4, ![2, 256, 8, 64]⟩
abbrev S2x8x64x256 : Shape := ⟨4, ![2, 8, 64, 256]⟩
abbrev S16x64x256 : Shape := ⟨3, ![16, 64, 256]⟩
abbrev S16x2x2x4x64x256 : Shape := ⟨6, ![16, 2, 2, 4, 64, 256]⟩
abbrev S16x256 : Shape := ⟨2, ![16, 256]⟩
abbrev S15x2 : Shape := ⟨2, ![15, 2]⟩
abbrev S_ : Shape := ⟨0, ![]⟩
abbrev S4x64x256 : Shape := ⟨3, ![4, 64, 256]⟩
abbrev S1x1x1x4x64x256 : Shape := ⟨6, ![1, 1, 1, 4, 64, 256]⟩
abbrev S1x1 : Shape := ⟨2, ![1, 1]⟩
abbrev S1x1x2x4x64x256 : Shape := ⟨6, ![1, 1, 2, 4, 64, 256]⟩
abbrev S2x4x64x256 : Shape := ⟨4, ![2, 4, 64, 256]⟩
abbrev S4x256x256 : Shape := ⟨3, ![4, 256, 256]⟩
abbrev S4x256 : Shape := ⟨2, ![4, 256]⟩
abbrev S4x256x1 : Shape := ⟨3, ![4, 256, 1]⟩
abbrev S4x1x256 : Shape := ⟨3, ![4, 1, 256]⟩
abbrev S16x1x256 : Shape := ⟨3, ![16, 1, 256]⟩

abbrev nBuf : Space → Nat
  | .hbm => 15
  | .vmem => 9
  | .smem => 0
  | _ => 0

abbrev bufTy : (tb : Table) → Fin (tcTables nBuf tb) → BufTy
  | .hbm, ⟨0, _⟩ => ⟨S2x256x8x64, .f32⟩
  | .hbm, ⟨1, _⟩ => ⟨S2x256x8x64, .f32⟩
  | .hbm, ⟨2, _⟩ => ⟨S2x256x8x64, .f32⟩
  | .hbm, ⟨3, _⟩ => ⟨S2x8x64x256, .f32⟩
  | .hbm, ⟨4, _⟩ => ⟨S16x64x256, .f32⟩
  | .hbm, ⟨5, _⟩ => ⟨S16x64x256, .bf16⟩
  | .hbm, ⟨6, _⟩ => ⟨S2x8x64x256, .f32⟩
  | .hbm, ⟨7, _⟩ => ⟨S16x64x256, .f32⟩
  | .hbm, ⟨8, _⟩ => ⟨S16x64x256, .bf16⟩
  | .hbm, ⟨9, _⟩ => ⟨S2x8x64x256, .f32⟩
  | .hbm, ⟨10, _⟩ => ⟨S16x64x256, .f32⟩
  | .hbm, ⟨11, _⟩ => ⟨S16x64x256, .bf16⟩
  | .hbm, ⟨12, _⟩ => ⟨S16x64x256, .f32⟩
  | .hbm, ⟨13, _⟩ => ⟨S2x8x64x256, .f32⟩
  | .hbm, ⟨14, _⟩ => ⟨S2x256x8x64, .f32⟩
  | .local _ .vmem, ⟨0, _⟩ => ⟨S16x64x256, .bf16⟩
  | .local _ .vmem, ⟨1, _⟩ => ⟨S16x64x256, .bf16⟩
  | .local _ .vmem, ⟨2, _⟩ => ⟨S16x64x256, .bf16⟩
  | .local _ .vmem, ⟨3, _⟩ => ⟨S16x64x256, .f32⟩
  | .local _ .vmem, ⟨4, _⟩ => ⟨S16x2x2x4x64x256, .bf16⟩
  | .local _ .vmem, ⟨5, _⟩ => ⟨S16x2x2x4x64x256, .bf16⟩
  | .local _ .vmem, ⟨6, _⟩ => ⟨S16x64x256, .f32⟩
  | .local _ .vmem, ⟨7, _⟩ => ⟨S16x256, .f32⟩
  | .local _ .vmem, ⟨8, _⟩ => ⟨S16x256, .f32⟩
  | _, _ => ⟨S2x256x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => false
  | ⟨1, _⟩ => true
  | _ => false

abbrev dmaSemScoped : Fin 124 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | _ => false

abbrev sig : RefSig :=
  (ofTc nBuf bufTy 2 124 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8 : BitVec 32 := 1#32
  let v11 : BitVec 32 := Scalar.muli v4 c1_i32_8
  let v12 : BitVec 32 := Scalar.addi c0_i32_9 v11
  v12.toNat
def k0_dev3 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_85 : BitVec 32 := 1#32
  let v53 : BitVec 32 := Scalar.muli v4 c1_i32_85
  let v54 : BitVec 32 := Scalar.addi c0_i32_86 v53
  v54.toNat
def k0_dev4 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_103 : BitVec 32 := 1#32
  let v63 : BitVec 32 := Scalar.muli v4 c1_i32_103
  let v64 : BitVec 32 := Scalar.addi c0_i32_104 v63
  v64.toNat
def k0_dev5 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_121 : BitVec 32 := 1#32
  let v73 : BitVec 32 := Scalar.muli v7 c1_i32_121
  let v74 : BitVec 32 := Scalar.addi c0_i32_122 v73
  v74.toNat
def k0_dev6 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_139 : BitVec 32 := 1#32
  let v83 : BitVec 32 := Scalar.muli v7 c1_i32_139
  let v84 : BitVec 32 := Scalar.addi c0_i32_140 v83
  v84.toNat
@[reducible] def k0_t1_loop : Scf.Loop 32 :=
  let c0_i32_256 : BitVec 32 := 0#32
  let c14_i32 : BitVec 32 := 14#32
  let v197 : BitVec 32 := Scalar.addi c0_i32_256 c14_i32
  let c1_i32_257 : BitVec 32 := 1#32
  ⟨c0_i32_256, v197, c1_i32_257⟩
def k0_off1 (k0_t1 : Fin k0_t1_loop.trips) : Fin 2 → Nat :=
  let c0_i32_256 : BitVec 32 := 0#32
  let c1_i32_257 : BitVec 32 := 1#32
  let arg13 : BitVec 32 := Scf.iv c0_i32_256 c1_i32_257 k0_t1
  let c0_i32_488 : BitVec 32 := 0#32
  ![arg13.toNat, 0]
def k0_off2 (k0_t1 : Fin k0_t1_loop.trips) : Fin 6 → Nat :=
  let c0_i32_256 : BitVec 32 := 0#32
  let c1_i32_257 : BitVec 32 := 1#32
  let arg13 : BitVec 32 := Scf.iv c0_i32_256 c1_i32_257 k0_t1
  let c1_i32_485 : BitVec 32 := 1#32
  let v393 : BitVec 32 := Scalar.addi arg13 c1_i32_485
  let c0_i32_487 : BitVec 32 := 0#32
  let c0_i32_492 : BitVec 32 := 0#32
  let c0_i32_493 : BitVec 32 := 0#32
  let c0_i32_494 : BitVec 32 := 0#32
  let c0_i32_495 : BitVec 32 := 0#32
  ![v393.toNat, 0, 0, 0, 0, 0]
def k0_off3 (k0_t1 : Fin k0_t1_loop.trips) : Fin 6 → Nat :=
  let c0_i32_256 : BitVec 32 := 0#32
  let c1_i32_257 : BitVec 32 := 1#32
  let arg13 : BitVec 32 := Scf.iv c0_i32_256 c1_i32_257 k0_t1
  let c0_i32_486 : BitVec 32 := 0#32
  let c0_i32_496 : BitVec 32 := 0#32
  let c0_i32_497 : BitVec 32 := 0#32
  let c0_i32_498 : BitVec 32 := 0#32
  let c0_i32_499 : BitVec 32 := 0#32
  ![arg13.toNat, 0, 0, 0, 0, 0]
def k0_off4 (k0_t1 : Fin k0_t1_loop.trips) : Fin 2 → Nat :=
  let c0_i32_256 : BitVec 32 := 0#32
  let c1_i32_257 : BitVec 32 := 1#32
  let arg13 : BitVec 32 := Scf.iv c0_i32_256 c1_i32_257 k0_t1
  let c1_i32_500 : BitVec 32 := 1#32
  let v402 : BitVec 32 := Scalar.addi arg13 c1_i32_500
  let c0_i32_505 : BitVec 32 := 0#32
  ![v402.toNat, 0]
def k0_off5 (k0_t1 : Fin k0_t1_loop.trips) : Fin 6 → Nat :=
  let c0_i32_256 : BitVec 32 := 0#32
  let c1_i32_257 : BitVec 32 := 1#32
  let arg13 : BitVec 32 := Scf.iv c0_i32_256 c1_i32_257 k0_t1
  let c1_i32_500 : BitVec 32 := 1#32
  let v402 : BitVec 32 := Scalar.addi arg13 c1_i32_500
  let c1_i32_501 : BitVec 32 := 1#32
  let v403 : BitVec 32 := Scalar.addi v402 c1_i32_501
  let c0_i32_503 : BitVec 32 := 0#32
  let c0_i32_508 : BitVec 32 := 0#32
  let c0_i32_509 : BitVec 32 := 0#32
  let c0_i32_510 : BitVec 32 := 0#32
  let c0_i32_511 : BitVec 32 := 0#32
  ![v403.toNat, 0, 0, 0, 0, 0]
def k0_dev7 (d0 : Dev nD) : Nat :=
  let c0_i32_507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_506 : BitVec 32 := 1#32
  let v404 : BitVec 32 := Scalar.muli v4 c1_i32_506
  let v405 : BitVec 32 := Scalar.addi c0_i32_507 v404
  v405.toNat
def k0_dev8 (d0 : Dev nD) : Nat :=
  let c0_i32_538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_537 : BitVec 32 := 1#32
  let v425 : BitVec 32 := Scalar.muli v7 c1_i32_537
  let v426 : BitVec 32 := Scalar.addi c0_i32_538 v425
  v426.toNat
def k0_off6 (k0_t1 : Fin k0_t1_loop.trips) : Fin 2 → Nat :=
  let c0_i32_256 : BitVec 32 := 0#32
  let c1_i32_257 : BitVec 32 := 1#32
  let arg13 : BitVec 32 := Scf.iv c0_i32_256 c1_i32_257 k0_t1
  let c1_i32_550 : BitVec 32 := 1#32
  ![arg13.toNat, 1]
def k0_off7 (k0_t1 : Fin k0_t1_loop.trips) : Fin 6 → Nat :=
  let c0_i32_256 : BitVec 32 := 0#32
  let c1_i32_257 : BitVec 32 := 1#32
  let arg13 : BitVec 32 := Scf.iv c0_i32_256 c1_i32_257 k0_t1
  let c1_i32_547 : BitVec 32 := 1#32
  let v435 : BitVec 32 := Scalar.addi arg13 c1_i32_547
  let c1_i32_549 : BitVec 32 := 1#32
  let c0_i32_554 : BitVec 32 := 0#32
  let c0_i32_555 : BitVec 32 := 0#32
  let c0_i32_556 : BitVec 32 := 0#32
  let c0_i32_557 : BitVec 32 := 0#32
  ![v435.toNat, 1, 0, 0, 0, 0]
def k0_off8 (k0_t1 : Fin k0_t1_loop.trips) : Fin 6 → Nat :=
  let c0_i32_256 : BitVec 32 := 0#32
  let c1_i32_257 : BitVec 32 := 1#32
  let arg13 : BitVec 32 := Scf.iv c0_i32_256 c1_i32_257 k0_t1
  let c1_i32_548 : BitVec 32 := 1#32
  let c0_i32_558 : BitVec 32 := 0#32
  let c0_i32_559 : BitVec 32 := 0#32
  let c0_i32_560 : BitVec 32 := 0#32
  let c0_i32_561 : BitVec 32 := 0#32
  ![arg13.toNat, 1, 0, 0, 0, 0]
def k0_off9 (k0_t1 : Fin k0_t1_loop.trips) : Fin 2 → Nat :=
  let c0_i32_256 : BitVec 32 := 0#32
  let c1_i32_257 : BitVec 32 := 1#32
  let arg13 : BitVec 32 := Scf.iv c0_i32_256 c1_i32_257 k0_t1
  let c1_i32_562 : BitVec 32 := 1#32
  let v444 : BitVec 32 := Scalar.addi arg13 c1_i32_562
  let c1_i32_567 : BitVec 32 := 1#32
  ![v444.toNat, 1]
def k0_off10 (k0_t1 : Fin k0_t1_loop.trips) : Fin 6 → Nat :=
  let c0_i32_256 : BitVec 32 := 0#32
  let c1_i32_257 : BitVec 32 := 1#32
  let arg13 : BitVec 32 := Scf.iv c0_i32_256 c1_i32_257 k0_t1
  let c1_i32_562 : BitVec 32 := 1#32
  let v444 : BitVec 32 := Scalar.addi arg13 c1_i32_562
  let c1_i32_563 : BitVec 32 := 1#32
  let v445 : BitVec 32 := Scalar.addi v444 c1_i32_563
  let c1_i32_565 : BitVec 32 := 1#32
  let c0_i32_570 : BitVec 32 := 0#32
  let c0_i32_571 : BitVec 32 := 0#32
  let c0_i32_572 : BitVec 32 := 0#32
  let c0_i32_573 : BitVec 32 := 0#32
  ![v445.toNat, 1, 0, 0, 0, 0]
def k0_dev9 (d0 : Dev nD) : Nat :=
  let c0_i32_569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_568 : BitVec 32 := 1#32
  let v446 : BitVec 32 := Scalar.muli v4 c1_i32_568
  let v447 : BitVec 32 := Scalar.addi c0_i32_569 v446
  v447.toNat
def k0_dev10 (d0 : Dev nD) : Nat :=
  let c0_i32_600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_599 : BitVec 32 := 1#32
  let v467 : BitVec 32 := Scalar.muli v7 c1_i32_599
  let v468 : BitVec 32 := Scalar.addi c0_i32_600 v467
  v468.toNat
def k0_off11 (k0_t1 : Fin k0_t1_loop.trips) : Fin 6 → Nat :=
  let c0_i32_256 : BitVec 32 := 0#32
  let c1_i32_257 : BitVec 32 := 1#32
  let arg13 : BitVec 32 := Scf.iv c0_i32_256 c1_i32_257 k0_t1
  let c1_i32_609 : BitVec 32 := 1#32
  let v477 : BitVec 32 := Scalar.addi arg13 c1_i32_609
  let v480 : Index := Scalar.indexCast v477
  let c0_613 : Index := 0#32
  let c0_614 : Index := 0#32
  let c0_615 : Index := 0#32
  let c0_616 : Index := 0#32
  let c0_617 : Index := 0#32
  ![v480.toNat, 0, 0, 0, 0, 0]
def k0_off12 (k0_t1 : Fin k0_t1_loop.trips) : Fin 6 → Nat :=
  let c0_i32_256 : BitVec 32 := 0#32
  let c1_i32_257 : BitVec 32 := 1#32
  let arg13 : BitVec 32 := Scf.iv c0_i32_256 c1_i32_257 k0_t1
  let c1_i32_609 : BitVec 32 := 1#32
  let v477 : BitVec 32 := Scalar.addi arg13 c1_i32_609
  let v483 : Index := Scalar.indexCast v477
  let c0_618 : Index := 0#32
  let c1_619 : Index := 1#32
  let c0_620 : Index := 0#32
  let c0_621 : Index := 0#32
  let c0_622 : Index := 0#32
  ![v483.toNat, 0, 1, 0, 0, 0]
def k0_off13 (k0_t1 : Fin k0_t1_loop.trips) : Fin 6 → Nat :=
  let c0_i32_256 : BitVec 32 := 0#32
  let c1_i32_257 : BitVec 32 := 1#32
  let arg13 : BitVec 32 := Scf.iv c0_i32_256 c1_i32_257 k0_t1
  let c1_i32_609 : BitVec 32 := 1#32
  let v477 : BitVec 32 := Scalar.addi arg13 c1_i32_609
  let v521 : Index := Scalar.indexCast v477
  let c1_647 : Index := 1#32
  let c0_648 : Index := 0#32
  let c0_649 : Index := 0#32
  let c0_650 : Index := 0#32
  let c0_651 : Index := 0#32
  ![v521.toNat, 1, 0, 0, 0, 0]
def k0_off14 (k0_t1 : Fin k0_t1_loop.trips) : Fin 6 → Nat :=
  let c0_i32_256 : BitVec 32 := 0#32
  let c1_i32_257 : BitVec 32 := 1#32
  let arg13 : BitVec 32 := Scf.iv c0_i32_256 c1_i32_257 k0_t1
  let c1_i32_609 : BitVec 32 := 1#32
  let v477 : BitVec 32 := Scalar.addi arg13 c1_i32_609
  let v524 : Index := Scalar.indexCast v477
  let c1_652 : Index := 1#32
  let c1_653 : Index := 1#32
  let c0_654 : Index := 0#32
  let c0_655 : Index := 0#32
  let c0_656 : Index := 0#32
  ![v524.toNat, 1, 1, 0, 0, 0]
@[reducible] def k0_t2_loop : Scf.Loop 32 :=
  let c0_i32_481 : BitVec 32 := 0#32
  let c15_i32_482 : BitVec 32 := 15#32
  let v392 : BitVec 32 := Scalar.addi c0_i32_481 c15_i32_482
  let c1_i32_483 : BitVec 32 := 1#32
  ⟨c0_i32_481, v392, c1_i32_483⟩
def k0_off15 (k0_t2 : Fin k0_t2_loop.trips) : Fin 2 → Nat :=
  let c0_i32_481 : BitVec 32 := 0#32
  let c1_i32_483 : BitVec 32 := 1#32
  let arg13 : BitVec 32 := Scf.iv c0_i32_481 c1_i32_483 k0_t2
  let c0_i32_488 : BitVec 32 := 0#32
  ![arg13.toNat, 0]
def k0_off16 (k0_t2 : Fin k0_t2_loop.trips) : Fin 6 → Nat :=
  let c0_i32_481 : BitVec 32 := 0#32
  let c1_i32_483 : BitVec 32 := 1#32
  let arg13 : BitVec 32 := Scf.iv c0_i32_481 c1_i32_483 k0_t2
  let c0_i32_487 : BitVec 32 := 0#32
  let c0_i32_491 : BitVec 32 := 0#32
  let c0_i32_492 : BitVec 32 := 0#32
  let c0_i32_493 : BitVec 32 := 0#32
  let c0_i32_494 : BitVec 32 := 0#32
  ![arg13.toNat, 0, 0, 0, 0, 0]
def k0_off17 (k0_t2 : Fin k0_t2_loop.trips) : Fin 6 → Nat :=
  let c0_i32_481 : BitVec 32 := 0#32
  let c1_i32_483 : BitVec 32 := 1#32
  let arg13 : BitVec 32 := Scf.iv c0_i32_481 c1_i32_483 k0_t2
  let c1_i32_485 : BitVec 32 := 1#32
  let v393 : BitVec 32 := Scalar.addi arg13 c1_i32_485
  let c0_i32_486 : BitVec 32 := 0#32
  let c0_i32_495 : BitVec 32 := 0#32
  let c0_i32_496 : BitVec 32 := 0#32
  let c0_i32_497 : BitVec 32 := 0#32
  let c0_i32_498 : BitVec 32 := 0#32
  ![v393.toNat, 0, 0, 0, 0, 0]
def k0_off18 (k0_t2 : Fin k0_t2_loop.trips) : Fin 2 → Nat :=
  let c0_i32_481 : BitVec 32 := 0#32
  let c1_i32_483 : BitVec 32 := 1#32
  let arg13 : BitVec 32 := Scf.iv c0_i32_481 c1_i32_483 k0_t2
  let c1_i32_502 : BitVec 32 := 1#32
  ![arg13.toNat, 1]
def k0_off19 (k0_t2 : Fin k0_t2_loop.trips) : Fin 6 → Nat :=
  let c0_i32_481 : BitVec 32 := 0#32
  let c1_i32_483 : BitVec 32 := 1#32
  let arg13 : BitVec 32 := Scf.iv c0_i32_481 c1_i32_483 k0_t2
  let c1_i32_501 : BitVec 32 := 1#32
  let c0_i32_505 : BitVec 32 := 0#32
  let c0_i32_506 : BitVec 32 := 0#32
  let c0_i32_507 : BitVec 32 := 0#32
  let c0_i32_508 : BitVec 32 := 0#32
  ![arg13.toNat, 1, 0, 0, 0, 0]
def k0_off20 (k0_t2 : Fin k0_t2_loop.trips) : Fin 6 → Nat :=
  let c0_i32_481 : BitVec 32 := 0#32
  let c1_i32_483 : BitVec 32 := 1#32
  let arg13 : BitVec 32 := Scf.iv c0_i32_481 c1_i32_483 k0_t2
  let c1_i32_499 : BitVec 32 := 1#32
  let v400 : BitVec 32 := Scalar.addi arg13 c1_i32_499
  let c1_i32_500 : BitVec 32 := 1#32
  let c0_i32_509 : BitVec 32 := 0#32
  let c0_i32_510 : BitVec 32 := 0#32
  let c0_i32_511 : BitVec 32 := 0#32
  let c0_i32_512 : BitVec 32 := 0#32
  ![v400.toNat, 1, 0, 0, 0, 0]
def k0_dev11 (d0 : Dev nD) : Nat :=
  let c0_i32_487_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_486_r0 : BitVec 32 := 1#32
  let v394_r0 : BitVec 32 := Scalar.muli v7 c1_i32_486_r0
  let v395_r0 : BitVec 32 := Scalar.addi c0_i32_487_r0 v394_r0
  v395_r0.toNat
def k0_dev12 (d0 : Dev nD) : Nat :=
  let c0_i32_490_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_489_r0 : BitVec 32 := 1#32
  let v396_r0 : BitVec 32 := Scalar.muli v4 c1_i32_489_r0
  let v397_r0 : BitVec 32 := Scalar.addi c0_i32_490_r0 v396_r0
  v397_r0.toNat
abbrev stage0_0 : Fin 1 → Memref sig .tc .vmem S16x64x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x4096x8x64 : Shape := ⟨4, ![2, 4096, 8, 64]⟩
abbrev S2x8x4096x4096 : Shape := ⟨4, ![2, 8, 4096, 4096]⟩
abbrev S_ : Shape := ⟨0, ![]⟩
abbrev S2x8x4096 : Shape := ⟨3, ![2, 8, 4096]⟩
abbrev S2x8x4096x1 : Shape := ⟨4, ![2, 8, 4096, 1]⟩
abbrev S2x8x64x4096 : Shape := ⟨4, ![2, 8, 64, 4096]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x8x64, .f32⟩
  | .hbm, ⟨1, _⟩ => ⟨S2x4096x8x64, .f32⟩
  | .hbm, ⟨2, _⟩ => ⟨S2x4096x8x64, .f32⟩
  | .hbm, ⟨3, _⟩ => ⟨S2x8x4096x4096, .f32⟩
  | .hbm, ⟨4, _⟩ => ⟨S_, .f32⟩
  | .hbm, ⟨5, _⟩ => ⟨S2x8x4096x4096, .f32⟩
  | .hbm, ⟨6, _⟩ => ⟨S2x8x4096x4096, .f32⟩
  | .hbm, ⟨7, _⟩ => ⟨S_, .f32⟩
  | .hbm, ⟨8, _⟩ => ⟨S2x8x4096, .f32⟩
  | .hbm, ⟨9, _⟩ => ⟨S2x8x4096x1, .f32⟩
  | .hbm, ⟨10, _⟩ => ⟨S2x8x4096x4096, .f32⟩
  | .hbm, ⟨11, _⟩ => ⟨S2x8x4096x4096, .f32⟩
  | .hbm, ⟨12, _⟩ => ⟨S2x8x4096x4096, .f32⟩
  | .hbm, ⟨13, _⟩ => ⟨S_, .f32⟩
  | .hbm, ⟨14, _⟩ => ⟨S2x8x4096, .f32⟩
  | .hbm, ⟨15, _⟩ => ⟨S2x8x4096x1, .f32⟩
  | .hbm, ⟨16, _⟩ => ⟨S2x8x4096x4096, .f32⟩
  | .hbm, ⟨17, _⟩ => ⟨S2x8x4096x4096, .f32⟩
  | .hbm, ⟨18, _⟩ => ⟨S2x8x64x4096, .f32⟩
  | .hbm, ⟨19, _⟩ => ⟨S2x4096x8x64, .f32⟩
  | _, _ => ⟨S2x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Protocol.lean ====
/-
The protocol of the distributed ring attention: which device pays which semaphore of which other
device, with what, and in which order of levels every wait is allowed.

Sixteen devices stand in a ring. Chain `false` (heads 0..7) sends to the right neighbour, chain `true`
(heads 8..15) to the left one. Each chain moves two sub-blocks of four heads (index `j : Bool`), and
slot `s` of a chain's buffer holds, on every device, the keys and values that started `s` devices
upstream. A copy of hop `h` reads slot `h` here and writes slot `h + 1` on the next device; its two
semaphores are used for nothing else.
-/
module

public import proofs.«01_k».proof.Proof.Gen.KernelIdeal.Launch
public import proofs.«01_k».proof.Proof.Gen.KernelIdeal.Skeleton
public import proofs.«01_k».proof.Proof.Gen.KernelIdeal.Frame
public import Idealize.ShloMosaic.Lib.Pipeline.RegionTalk
public import Idealize.ShloMosaic.Lib.Rounds
public import Idealize.ShloMosaic.Lib.Rounds.Family
public import Idealize.ShloMosaic.Lib.Memref
public import Idealize.ShloMosaic.Lib.Tactic

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The ring -/

/-- The device a chain sends to. -/
def nxt (x : Bool) (c : Dev nD) : Dev nD := ⟨(c.val + bif x then 15 else 1) % 16, Nat.mod_lt _ (by decide)⟩
/-- The device a chain receives from. -/
def prv (x : Bool) (c : Dev nD) : Dev nD := nxt (!x) c

/-- The neighbour sent to, of the one received from, is the device. -/
theorem nxt_prv (x : Bool) (c : Dev nD) : nxt x (prv x c) = c := by revert x c; decide
/-- The neighbour received from, of the one sent to, is the device. -/
theorem prv_nxt (x : Bool) (c : Dev nD) : prv x (nxt x c) = c := by revert x c; decide

/-- The ring's step as a permutation of the devices. -/
def ring (x : Bool) : Dev nD ≃ Dev nD := ⟨nxt x, prv x, prv_nxt x, nxt_prv x⟩

/-- The device whose keys and values slot `s` of chain `x` holds on device `c`: `s` steps upstream. -/
def src (x : Bool) : ℕ → Dev nD → Dev nD
  | 0, c => c
  | s + 1, c => src x s (prv x c)

/-- What a device holds in slot `h` its neighbour holds in slot `h + 1`. -/
theorem src_nxt (x : Bool) (c : Dev nD) (h : ℕ) : src x (h + 1) (nxt x c) = src x h c := by
  show src x h (prv x (nxt x c)) = _; rw [prv_nxt]

/-! ## Semaphores -/

/-- What a semaphore of the kernel is for. -/
inductive Kind
  | bar | fin | none
  | send (x j : Bool) (h : ℕ)
  | recv (x j : Bool) (h : ℕ)
  deriving DecidableEq

/-- Read off the semaphore's place in the arrays: four arrays of 15 × 2, send and receive of each chain. -/
def kindOf : SemLoc sig → Kind
  | .reg n => if n.val = 0 then .bar else .fin
  | .dma n =>
    if n.val < 4 then .none
    else
      let a := n.val - 4
      let x := decide (60 ≤ a)
      let b := a % 60
      let j := decide (a % 2 = 1)
      if b < 30 then .send x j (b / 2) else .recv x j ((b - 30) / 2)

/-- The barrier's semaphore. -/
abbrev barS : SemLoc sig := .reg barrier0
/-- The semaphore of the closing handshake. -/
abbrev finS : SemLoc sig := .reg cc0_scoped0.sem
/-- The semaphore on which the sender learns that hop `h` of sub-block `j` has left. -/
def sendS (x j : Bool) (h : ℕ) : SemLoc sig := .dma (Fin.ofNat 124 (4 + 60 * x.toNat + 2 * h + j.toNat))
/-- The semaphore on which the receiver learns that hop `h` of sub-block `j` has landed. -/
def recvS (x j : Bool) (h : ℕ) : SemLoc sig := .dma (Fin.ofNat 124 (34 + 60 * x.toNat + 2 * h + j.toNat))

/-- The barrier's semaphore is read as such. -/
theorem kind_bar : kindOf barS = .bar := by decide
/-- So is the closing semaphore, -/
theorem kind_fin : kindOf finS = .fin := by decide
/-- a send semaphore, -/
theorem kind_send (x j : Bool) {h : ℕ} (hh : h < 15) : kindOf (sendS x j h) = .send x j h := by
  revert x j h; decide
/-- and a receive semaphore. -/
theorem kind_recv (x j : Bool) {h : ℕ} (hh : h < 15) : kindOf (recvS x j h) = .recv x j h := by
  revert x j h; decide

abbrev barCell (c : Dev nD) : GSem nD τ sig := ((c : Thread nD τ), barS)
abbrev finCell (c : Dev nD) : GSem nD τ sig := ((c : Thread nD τ), finS)
abbrev sendCell (c : Dev nD) (x j : Bool) (h : ℕ) : GSem nD τ sig := ((c : Thread nD τ), sendS x j h)
abbrev recvCell (c : Dev nD) (x j : Bool) (h : ℕ) : GSem nD τ sig := ((c : Thread nD τ), recvS x j h)

/-! ## The resource algebra -/

variable {F : FTy → Type} [FloatOps F]

/-- The pipeline library's copy and this protocol's. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## The slots of the key and value buffers -/

/-- A chain's buffer of keys and values. -/
abbrev kvM (x : Bool) : Memref sig .tc .vmem S16x2x2x4x64x256 .bf16 :=
  bif x then Memref.whole cc0_scratch1 else Memref.whole cc0_scratch0

/-- Slot `s`, sub-block `j`, as a rectangle of the buffer. -/
def slotOff (s : ℕ) (j : Bool) : Fin 6 → ℕ := ![s % 16, j.toNat, 0, 0, 0, 0]

/-- A slot lies within its buffer. -/
theorem slot_inb (s : ℕ) (j : Bool) : ∀ a, slotOff s j a + S1x1x2x4x64x256.size a ≤ S16x2x2x4x64x256.size a := by
  have : s % 16 < 16 := Nat.mod_lt _ (by decide)
  unfold slotOff
  generalize s % 16 = n at this ⊢
  revert j n; decide

/-- The rectangle of slot `s`, sub-block `j`. -/
abbrev slotR (s : ℕ) (j : Bool) : Rect S16x2x2x4x64x256 :=
  Rect.unit (s := S16x2x2x4x64x256) (slotOff s j) S1x1x2x4x64x256.size (slot_inb s j)

/-- The slot's memref as sliced off the buffer. -/
abbrev slotL (x j : Bool) (s : ℕ) : Memref sig .tc .vmem S1x1x2x4x64x256 .bf16 :=
  (kvM x).slice (slotR s j) (fun _ => rfl)
/-- The slot's memref as the copies address it. -/
abbrev slotM (x j : Bool) (s : ℕ) : Memref sig .tc .vmem S2x4x64x256 .bf16 :=
  (slotL x j s).squeeze S2x4x64x256 squeezes_S1x1x2x4x64x256_S2x4x64x256

/-- What one copy credits its semaphores with. -/
def N : ℕ := (slotM false false 0).view.dmaCredit
/-- A slot's copy has some credit. -/
theorem N_pos : 0 < N := View.dmaCredit_pos _ (by decide)
/-- Every slot's copy has the same credit. -/
theorem slot_credit (x j : Bool) (s : ℕ) : (slotM x j s).view.dmaCredit = N := by cases x <;> rfl

/-! ## Contents: the blocks of keys and values the devices start with -/

/-- The queries, keys and values of every device, as its kernel is handed them. -/
structure Inputs (F : FTy → Type) where
  q : Dev nD → Vec F S16x64x256 .bf16
  k : Dev nD → Vec F S16x64x256 .bf16
  v : Dev nD → Vec F S16x64x256 .bf16

/-- A block of four heads lies within the sixteen. -/
theorem row_inb (x j : Bool) : ∀ a, (![8 * x.toNat + 4 * j.toNat, 0, 0] : Fin 3 → ℕ) a + S4x64x256.size a ≤ S16x64x256.size a := by
  revert x j; decide
/-- The four heads of chain `x`, sub-block `j`. -/
abbrev rowR (x j : Bool) : Rect S16x64x256 :=
  Rect.unit (s := S16x64x256) ![8 * x.toNat + 4 * j.toNat, 0, 0] S4x64x256.size (row_inb x j)
/-- The same of one number per head and query. -/
theorem row2_inb (x j : Bool) : ∀ a, (![8 * x.toNat + 4 * j.toNat, 0] : Fin 2 → ℕ) a + S4x256.size a ≤ S16x256.size a := by
  revert x j; decide
/-- The same heads of the running maximum and the running sum. -/
abbrev rowR2 (x j : Bool) : Rect S16x256 :=
  Rect.unit (s := S16x256) ![8 * x.toNat + 4 * j.toNat, 0] S4x256.size (row2_inb x j)

/-- Four heads of a block. -/
def rows (x j : Bool) (X : Vec F S16x64x256 .bf16) : Vec F S4x64x256 .bf16 := fun i => X ((rowR x j).emb i)

/-- A block of four heads as a slot stores it. -/
def asSlot (v : Vec F S4x64x256 .bf16) : Vec F S1x1x1x4x64x256 .bf16 := k0_pay30 v

/-- An index of a slot without the choice of keys or values. -/
def halfIdx (z : S1x1x2x4x64x256.Idx) : S1x1x1x4x64x256.Idx
  | ⟨0, _⟩ => (z 0 : Fin 1) | ⟨1, _⟩ => (z 1 : Fin 1) | ⟨2, _⟩ => (0 : Fin 1)
  | ⟨3, _⟩ => (z 3 : Fin 4) | ⟨4, _⟩ => (z 4 : Fin 64) | ⟨5, _⟩ => (z 5 : Fin 256)

/-- A slot holding the keys `k` and the values `v`. -/
def pack (k v : Vec F S1x1x1x4x64x256 .bf16) : Vec F S1x1x2x4x64x256 .bf16 := fun z =>
  if (z 2).val = 0 then k (halfIdx z) else v (halfIdx z)

/-- What slot `s` of chain `x`, sub-block `j`, holds on device `c` once filled. -/
def slotV (I : Inputs F) (x j : Bool) (s : ℕ) (c : Dev nD) : Vec F S1x1x2x4x64x256 .bf16 :=
  pack (asSlot (rows x j (I.k (src x s c)))) (asSlot (rows x j (I.v (src x s c))))

/-- What a device holds in a slot is what its neighbour holds in the next slot. -/
theorem slotV_nxt (I : Inputs F) (x j : Bool) (h : ℕ) (c : Dev nD) :
    slotV I x j (h + 1) (nxt x c) = slotV I x j h c := by unfold slotV; rw [src_nxt]

/-- Device `c` holds slot `s` at share `q` with contents `X`. -/
abbrev slotOwn (c : Dev nD) (x j : Bool) (s : ℕ) (q : PosShare TreeShare) (X : Vec F S1x1x2x4x64x256 .bf16) : sProp 𝕄 :=
  owns (c : Thread nD τ) (slotL x j s) q X
/-- Device `c` holds the filled slot `s` at share `q`. -/
abbrev slotAt (I : Inputs F) (c : Dev nD) (x j : Bool) (s : ℕ) (q : PosShare TreeShare) : sProp 𝕄 :=
  slotOwn c x j s q (slotV I x j s c)

/-! ## The schedule -/

/-- Two copies of a resource, one per sub-block. -/
abbrev both (A : Bool → sProp 𝕄) : sProp 𝕄 := iprop(A false ∗ A true)

/-- What device `nxt x c` hands to device `c` at the barrier: its slots to be filled, with the fact that its receive
    semaphores are in use, and that its closing semaphore is. -/
def barPay (c : Dev nD) (x : Bool) : sProp 𝕄 :=
  iprop((bigSep (Finset.range 15) fun h => both fun j =>
      iprop((∃ X, slotOwn (nxt x c) x j (h + 1) fullShare X) ∗ reached ER (recvCell (nxt x c) x j h) 0))
    ∗ reached ER (finCell (nxt x c)) 0)

/-- The duties, amounts and payloads of every semaphore: all in round 0. -/
def Rd (I : Inputs F) : Rounds.Schedule (GSem nD τ sig) Bool 𝕄 where
  duties g r := if r = 0 ∧ g.1.2 = .tc then
      (match kindOf g.2 with | .bar => Finset.univ | .fin => Finset.univ | .none => ∅ | .send .. => {false} | .recv .. => {false})
    else ∅
  unitless _ := False
  amount g _ _ := match kindOf g.2 with | .bar => 1 | .fin => 1 | .none => 1 | .send .. => N | .recv .. => N
  payload g _ d := match kindOf g.2 with
    | .bar => barPay g.1.1 d
    | .fin => iprop(emp)
    | .none => iprop(emp)
    | .send x j h => slotAt I g.1.1 x j h fullShare.right
    | .recv x j h => slotAt I g.1.1 x j (h + 1) fullShare
  amount_pos g _ _ _ := by
    cases kindOf g.2 <;> first | exact Nat.one_pos | exact N_pos

/-- What a duty hands over can be kept in an invariant. -/
instance payload_storable (I : Inputs F) (g : GSem nD τ sig) (r : ℕ) (d : Bool) :
    BI.Storable (upEmb : UEmb _ 𝕄) ((Rd I).payload g r d) := by
  show BI.Storable upEmb (match kindOf g.2 with
    | .bar => barPay g.1.1 d
    | .fin => iprop(emp)
    | .none => iprop(emp)
    | .send x j h => slotAt I g.1.1 x j h fullShare.right
    | .recv x j h => slotAt I g.1.1 x j (h + 1) fullShare)
  unfold barPay
  split <;> infer_instance

section Sched
variable (I : Inputs F) (c : Dev nD) (x j : Bool) {h : ℕ} (hh : h < 15)

/-- A barrier cell's duties: one from each neighbour. -/
theorem duties_bar : (Rd I).duties (barCell c) 0 = Finset.univ := by
  dsimp only [Rd]; rw [if_pos ⟨rfl, rfl⟩, kind_bar]
/-- A closing cell's duties: one from each neighbour. -/
theorem duties_fin : (Rd I).duties (finCell c) 0 = Finset.univ := by
  dsimp only [Rd]; rw [if_pos ⟨rfl, rfl⟩, kind_fin]
include hh in
/-- A send cell's one duty. -/
theorem duties_send : (Rd I).duties (sendCell c x j h) 0 = {false} := by
  dsimp only [Rd]; rw [if_pos ⟨rfl, rfl⟩, kind_send x j hh]
include hh in
/-- A receive cell's one duty. -/
theorem duties_recv : (Rd I).duties (recvCell c x j h) 0 = {false} := by
  dsimp only [Rd]; rw [if_pos ⟨rfl, rfl⟩, kind_recv x j hh]
/-- No cell has duties after the first round. -/
theorem duties_later (g : GSem nD τ sig) : ∀ r, 1 ≤ r → (Rd I).duties g r = ∅ := fun r hr => by
  dsimp only [Rd]; rw [if_neg fun h => by omega]

/-- A barrier signal is one unit. -/
theorem amount_bar (d : Bool) : (Rd I).amount (barCell c) 0 d = 1 := by dsimp only [Rd]; rw [kind_bar]
/-- A closing signal is one unit. -/
theorem amount_fin (d : Bool) : (Rd I).amount (finCell c) 0 d = 1 := by dsimp only [Rd]; rw [kind_fin]
include hh in
/-- A departure pays a slot's credit. -/
theorem amount_send (d : Bool) : (Rd I).amount (sendCell c x j h) 0 d = N := by dsimp only [Rd]; rw [kind_send x j hh]
include hh in
/-- An arrival pays a slot's credit. -/
theorem amount_recv (d : Bool) : (Rd I).amount (recvCell c x j h) 0 d = N := by dsimp only [Rd]; rw [kind_recv x j hh]

/-- A barrier wait takes two units. -/
theorem expect_bar : (Rd I).expect (barCell c) 0 = 2 := by
  unfold Schedule.expect Schedule.amountOf; rw [duties_bar, Fintype.sum_bool, amount_bar, amount_bar]
/-- A closing wait takes two units. -/
theorem expect_fin : (Rd I).expect (finCell c) 0 = 2 := by
  unfold Schedule.expect Schedule.amountOf; rw [duties_fin, Fintype.sum_bool, amount_fin, amount_fin]
include hh in
/-- A wait for a departure takes a slot's credit. -/
theorem expect_send : (Rd I).expect (sendCell c x j h) 0 = N := by
  unfold Schedule.expect Schedule.amountOf; rw [duties_send I c x j hh, Finset.sum_singleton, amount_send I c x j hh]
include hh in
/-- A wait for an arrival takes a slot's credit. -/
theorem expect_recv : (Rd I).expect (recvCell c x j h) 0 = N := by
  unfold Schedule.expect Schedule.amountOf; rw [duties_recv I c x j hh, Finset.sum_singleton, amount_recv I c x j hh]

/-- A barrier signal hands over the slots to be written. -/
theorem payload_bar (d : Bool) : (Rd I).payload (barCell c) 0 d = barPay c d := by dsimp only [Rd]; rw [kind_bar]
/-- A closing signal hands over nothing. -/
theorem payload_fin (d : Bool) : (Rd I).payload (finCell c) 0 d = iprop(emp) := by dsimp only [Rd]; rw [kind_fin]
include hh in
/-- A departure hands the lent half of the slot back. -/
theorem payload_send (d : Bool) : (Rd I).payload (sendCell c x j h) 0 d = slotAt I c x j h fullShare.right := by
  dsimp only [Rd]; rw [kind_send x j hh]
include hh in
/-- An arrival hands over the next slot, filled. -/
theorem payload_recv (d : Bool) : (Rd I).payload (recvCell c x j h) 0 d = slotAt I c x j (h + 1) fullShare := by
  dsimp only [Rd]; rw [kind_recv x j hh]

/-- A family over the two truth values, conjoined. -/
theorem bigSep_bool (Φ : Bool → sProp 𝕄) : bigSep Finset.univ Φ = iprop(Φ false ∗ Φ true) :=
  bigSep_univ_eq_bigSepL [false, true] (by decide) (by decide) Φ

/-- What a barrier wait receives. -/
theorem rest_bar : bigSep ((Rd I).duties (barCell c) 0 \ ∅) (fun u => (Rd I).payload (barCell c) 0 u)
    = iprop(barPay c false ∗ barPay c true) := by
  rw [Finset.sdiff_empty, duties_bar, bigSep_bool, payload_bar, payload_bar]
include hh in
/-- What a wait for a departure receives. -/
theorem rest_send : bigSep ((Rd I).duties (sendCell c x j h) 0 \ ∅) (fun u => (Rd I).payload (sendCell c x j h) 0 u)
    = slotAt I c x j h fullShare.right := by
  rw [Finset.sdiff_empty, duties_send I c x j hh, bigSep_singleton, payload_send I c x j hh]
include hh in
/-- What a wait for an arrival receives. -/
theorem rest_recv : bigSep ((Rd I).duties (recvCell c x j h) 0 \ ∅) (fun u => (Rd I).payload (recvCell c x j h) 0 u)
    = slotAt I c x j (h + 1) fullShare := by
  rw [Finset.sdiff_empty, duties_recv I c x j hh, bigSep_singleton, payload_recv I c x j hh]

end Sched

/-! ## Levels and what is owed -/

/-- One label per cell of a TensorCore. -/
def L (g : GSem nD τ sig) : Finset Unit := if g.1.2 = .tc then {()} else ∅
/-- Barrier first, then the receives hop by hop, then the sends, then the closing handshake. -/
def lv (g : GSem nD τ sig) (_ : Unit) : ℕ := match kindOf g.2 with
  | .bar => 1 | .recv _ _ h => 2 + h | .send .. => 18 | .fin => 19 | .none => 0

/-- Only the TensorCores' cells have levels. -/
theorem L_of_ne (g : GSem nD τ sig) (h : g.1.2 ≠ .tc) : L g = ∅ := if_neg h
/-- A TensorCore's cell has one level. -/
theorem L_tc (c : Dev nD) (sm : SemLoc sig) : L ((c : Thread nD τ), sm) = {()} := if_pos rfl

/-- Everything owed in `O` is owed to a TensorCore's semaphore of a level above `n`. -/
def Above (n : ℕ) (O : CellTallies nD τ sig Unit) : Prop := ∀ g u, 0 < O g u → g.1.2 = .tc ∧ n < lv g u

/-- Nothing owed lies above every level. -/
theorem Above.zero (n : ℕ) : Above n 0 := fun g u h => absurd h (Nat.lt_irrefl 0)
/-- Two debts above a level are, together, above it. -/
theorem Above.add {n : ℕ} {O O' : CellTallies nD τ sig Unit} (h : Above n O) (h' : Above n O') : Above n (O + O') := by
  intro g u hg
  have : 0 < O g u + O' g u := hg
  rcases Nat.eq_zero_or_pos (O g u) with h0 | h0
  · exact h' g u (by omega)
  · exact h g u h0
/-- One unit owed to a cell above a level is above it. -/
theorem Above.tally {n k : ℕ} {c : Dev nD} {sm : SemLoc sig} (h : n < lv ((c : Thread nD τ), sm) ()) :
    Above n (tallyAt ((c : Thread nD τ), sm) () k) := by
  intro g u hg
  rw [tallyAt_apply] at hg
  by_cases e : g = ((c : Thread nD τ), sm) ∧ u = ()
  · rw [e.1]; exact ⟨rfl, h⟩
  · rw [if_neg e] at hg; exact absurd hg (Nat.lt_irrefl 0)
/-- Many debts above a level are, together, above it. -/
theorem Above.sum {n : ℕ} {S : Finset ℕ} {O : ℕ → CellTallies nD τ sig Unit} (h : ∀ i ∈ S, Above n (O i)) : Above n (∑ i ∈ S, O i) := by
  induction S using Finset.induction_on with
  | empty => rw [Finset.sum_empty]; exact .zero n
  | insert a S ha ih =>
    rw [Finset.sum_insert ha]
    exact (h a (Finset.mem_insert_self a S)).add (ih fun i hi => h i (Finset.mem_insert_of_mem hi))

/-- A wait on a cell of level at most `n` is allowed when everything owed is above `n`. -/
theorem mayWait_of {n : ℕ} {O : CellTallies nD τ sig Unit} (c : Dev nD) (sm : SemLoc sig)
    (hn : lv ((c : Thread nD τ), sm) () ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-- The barrier's level. -/
theorem lv_bar (c : Dev nD) : lv (barCell c) () = 1 := by unfold lv; rw [kind_bar]
/-- The closing semaphore's level. -/
theorem lv_fin (c : Dev nD) : lv (finCell c) () = 19 := by unfold lv; rw [kind_fin]
/-- A send cell's level. -/
theorem lv_send (c : Dev nD) (x j : Bool) {h : ℕ} (hh : h < 15) : lv (sendCell c x j h) () = 18 := by
  unfold lv; rw [kind_send x j hh]
/-- A receive cell's level grows with the hop. -/
theorem lv_recv (c : Dev nD) (x j : Bool) {h : ℕ} (hh : h < 15) : lv (recvCell c x j h) () = 2 + h := by
  unfold lv; rw [kind_recv x j hh]

/-- What one copy of hop `h` pays. -/
def owedCopy (c : Dev nD) (h : ℕ) (x j : Bool) : CellTallies nD τ sig Unit := tallyAt (recvCell (nxt x c) x j h) () N
/-- The four copies of hop `h`. -/
def owedHop (c : Dev nD) (h : ℕ) : CellTallies nD τ sig Unit :=
  owedCopy c h true true + owedCopy c h false true + owedCopy c h true false + owedCopy c h false false
/-- The closing signals. -/
def owedFin (c : Dev nD) : CellTallies nD τ sig Unit := tallyAt (finCell (prv true c)) () 1 + tallyAt (finCell (prv false c)) () 1
/-- The opening signals. -/
def owedBar (c : Dev nD) : CellTallies nD τ sig Unit := tallyAt (barCell (prv true c)) () 1 + tallyAt (barCell (prv false c)) () 1
/-- What is still owed once the copies of the hops below `n` have been started. -/
def owedFrom (c : Dev nD) (n : ℕ) : CellTallies nD τ sig Unit := owedFin c + ∑ h ∈ Finset.Ico n 15, owedHop c h
/-- What a device owes at launch. -/
def O₀ (c : Dev nD) : CellTallies nD τ sig Unit := owedFrom c 0 + owedBar c

/-- What is owed from a hop on is that hop's copies and what is owed after it. -/
theorem owedFrom_succ (c : Dev nD) {n : ℕ} (hn : n < 15) : owedFrom c n = owedFrom c (n + 1) + owedHop c n := by
  unfold owedFrom
  rw [show Finset.Ico n 15 = insert n (Finset.Ico (n + 1) 15) by ext i; simp only [Finset.mem_Ico, Finset.mem_insert]; omega,
    Finset.sum_insert (by rw [Finset.mem_Ico]; omega), add_comm (owedHop c n), add_assoc]

/-- After the last hop only the closing signals are owed. -/
theorem owedFrom_last (c : Dev nD) : owedFrom c 15 = owedFin c := by
  unfold owedFrom; rw [Finset.Ico_self, Finset.sum_empty, add_zero]

/-- The closing signals lie above every other level. -/
theorem above_fin (c : Dev nD) {n : ℕ} (hn : n < 19) : Above n (owedFin c) :=
  (Above.tally (by rw [lv_fin]; exact hn)).add (Above.tally (by rw [lv_fin]; exact hn))
/-- A copy's debt lies above the levels of earlier arrivals. -/
theorem above_copy (c : Dev nD) {n h : ℕ} (x j : Bool) (hh : h < 15) (hn : n < 2 + h) : Above n (owedCopy c h x j) :=
  Above.tally (by rw [lv_recv _ x j hh]; exact hn)
/-- So do the debts of a hop's copies together. -/
theorem above_hop (c : Dev nD) {n h : ℕ} (hh : h < 15) (hn : n < 2 + h) : Above n (owedHop c h) :=
  (((above_copy c _ _ hh hn).add (above_copy c _ _ hh hn)).add (above_copy c _ _ hh hn)).add (above_copy c _ _ hh hn)
/-- What is owed from hop `m` on lies above every level below `2 + m`. -/
theorem above_from (c : Dev nD) {n m : ℕ} (h : n < 2 + m) (hm : m ≤ 15) : Above n (owedFrom c m) := by
  unfold owedFrom
  refine (above_fin c (by omega)).add (Above.sum fun i hi => ?_)
  rw [Finset.mem_Ico] at hi
  exact above_hop c hi.2 (by omega)

end Cert.Ring

end
-- ==== Proof.Ops.lean ====
/-
Loads and stores through a rectangle of a memref, stated with `owns`: what a load returns and what a
store leaves, as functions on the rectangle's indices.
-/
module

public import proofs.«01_k».proof.Proof.Protocol

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What program `p` of the kernel needs, run by device `c`'s core, to reach `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section LoadStore

variable {α : Type} (c : Dev nD) {sh : Shape} {e : EltTy} {cs : CoreSpace} {m : Memref sig .tc cs sh e}

/-- Ownership of a memref is that of the buffer's elements under its view. -/
theorem owns_open (q : PosShare TreeShare) (X : sh.Idx → Elt F e) :
    (owns (c : Thread nD τ) m q X : sProp 𝕄)
      ⊢ iprop(∃ f, ⌜m.view.read (Elt F) f = X⌝ ∗ (m.view.loc (c : Thread nD τ) ↦[m.view.set]{q} f)) := .rfl

/-- A load through a rectangle lying in a slice that is held: it returns the slice's contents there. -/
theorem wp_load_sub (R : Rect sh) (hR : ∀ a, R.stride a = 1) (r : Rect sh) (φ : r.shape.Idx → R.shape.Idx)
    (hφ : ∀ i, R.emb (φ i) = r.emb i) {q : PosShare TreeShare} {X : R.shape.Idx → Elt F e}
    {hl : m.view.LoadsAt r.toLoadRect} {k : (r.shape.Idx → Elt F e) → Prog (TpuEff nD τ sig (Elt F) Λ₀ .tc) α} {Q : α → sProp 𝕄} :
    (owns (c : Thread nD τ) (m.slice R hR) q X : sProp 𝕄)
      ⊢ iprop((owns (c : Thread nD τ) (m.slice R hR) q X -∗ WP c (k fun i => X (φ i)) Q)
        -∗ WP c (.op (.load m r.toLoadRect hl) k) Q) := by
  iintro H Hk
  ihave H' := (owns_open (m := m.slice R hR) c q X) $$ H
  icases H' with ⟨%f, %hf, H⟩
  have hS : (m.access r).set ⊆ (m.slice R hR).view.set := by
    intro i hi
    obtain ⟨x, -, rfl⟩ := Finset.mem_map.mp hi
    show m.view.emb (r.emb x) ∈ _
    rw [← hφ x]
    exact (m.slice R hR).view.emb_mem_set (φ x)
  have hv : (m.access r).read (Elt F) f = fun i => X (φ i) := by
    funext i
    rw [← hf]
    show _root_.cast _ (f (m.view.emb (r.emb i))) = _root_.cast _ (f (m.view.emb (R.emb (φ i))))
    rw [hφ i]
  iapply (wp_load_rect 𝒱₀ (c : Thread nD τ) none Set.univ (m := m) (r := r) (hl := hl) (k := k) (f := f) hS) $$ H
  rw [hv]
  iintro H
  iapply Hk
  iapply (show (m.view.loc (c : Thread nD τ) ↦[(m.slice R hR).view.set]{q} f : sProp 𝕄) ⊢ owns (c : Thread nD τ) (m.slice R hR) q X from by
    rw [← hf]; exact owns_intro (c : Thread nD τ) (m.slice R hR) q f)
  iexact H

/-- A load through exactly the rectangle held. -/
theorem wp_load_owns (r : Rect sh) (hr : ∀ a, r.stride a = 1) {q : PosShare TreeShare} {X : r.shape.Idx → Elt F e}
    {hl : m.view.LoadsAt r.toLoadRect} {k : (r.shape.Idx → Elt F e) → Prog (TpuEff nD τ sig (Elt F) Λ₀ .tc) α} {Q : α → sProp 𝕄} :
    (owns (c : Thread nD τ) (m.slice r hr) q X : sProp 𝕄)
      ⊢ iprop((owns (c : Thread nD τ) (m.slice r hr) q X -∗ WP c (k X) Q) -∗ WP c (.op (.load m r.toLoadRect hl) k) Q) :=
  wp_load_sub c r hr r id (fun _ => rfl)

/-- A load through a rectangle of a memref held whole. -/
theorem wp_load_part (r : Rect sh) {q : PosShare TreeShare} {X : sh.Idx → Elt F e}
    {hl : m.view.LoadsAt r.toLoadRect} {k : (r.shape.Idx → Elt F e) → Prog (TpuEff nD τ sig (Elt F) Λ₀ .tc) α} {Q : α → sProp 𝕄} :
    (owns (c : Thread nD τ) m q X : sProp 𝕄)
      ⊢ iprop((owns (c : Thread nD τ) m q X -∗ WP c (k fun i => X (r.emb i)) Q) -∗ WP c (.op (.load m r.toLoadRect hl) k) Q) := by
  iintro H Hk
  ihave H' := (owns_open (m := m) c q X) $$ H
  icases H' with ⟨%f, %hf, H⟩
  have hS : (m.access r).set ⊆ m.view.set := by
    intro i hi
    obtain ⟨x, -, rfl⟩ := Finset.mem_map.mp hi
    exact m.view.emb_mem_set (r.emb x)
  have hv : (m.access r).read (Elt F) f = fun i => X (r.emb i) := by
    rw [← hf]; rfl
  iapply (wp_load_rect 𝒱₀ (c : Thread nD τ) none Set.univ (m := m) (r := r) (hl := hl) (k := k) (f := f) hS) $$ H
  rw [hv]
  iintro H
  iapply Hk
  iapply (show (m.view.loc (c : Thread nD τ) ↦[m.view.set]{q} f : sProp 𝕄) ⊢ owns (c : Thread nD τ) m q X from by
    rw [← hf]; exact owns_intro (c : Thread nD τ) m q f)
  iexact H

/-- A store through a rectangle lying in a slice that is held: the slice then holds the stored values there and what it
    held elsewhere. -/
theorem wp_store_sub (R : Rect sh) (hR : ∀ a, R.stride a = 1) (r : Rect sh) (φ : r.shape.Idx → R.shape.Idx)
    (hφ : ∀ i, R.emb (φ i) = r.emb i) {X : R.shape.Idx → Elt F e} {w : r.shape.Idx → Elt F e} (X' : R.shape.Idx → Elt F e)
    (h₁ : ∀ i, X' (φ i) = w i) (h₂ : ∀ z, (∀ i, φ i ≠ z) → X' z = X z)
    {hx : (m.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    (owns (c : Thread nD τ) (m.slice R hR) fullShare X : sProp 𝕄)
      ⊢ iprop((owns (c : Thread nD τ) (m.slice R hR) fullShare X' -∗ WP c (k ⟨⟩) Q)
        -∗ WP c (.op (.store m r w Finset.univ hx hm) k) Q) := by
  iintro H Hk
  ihave H' := (owns_open (m := m.slice R hR) c fullShare X) $$ H
  icases H' with ⟨%f, %hf, H⟩
  have hS : (m.access r).setOn Finset.univ ⊆ (m.slice R hR).view.set := by
    intro i hi
    obtain ⟨x, -, rfl⟩ := Finset.mem_map.mp hi
    show m.view.emb (r.emb x) ∈ _
    rw [← hφ x]
    exact (m.slice R hR).view.emb_mem_set (φ x)
  have hv : (m.slice R hR).view.read (Elt F) ((m.access r).write (Elt F) f w Finset.univ) = X' := by
    funext z
    by_cases hz : ∃ i, φ i = z
    · obtain ⟨i, rfl⟩ := hz
      rw [h₁ i]
      have : (m.access r).read (Elt F) ((m.access r).write (Elt F) f w Finset.univ) i = w i := by rw [View.read_write_univ]
      rw [← this]
      show _root_.cast _ ((m.access r).write (Elt F) f w Finset.univ (m.view.emb (R.emb (φ i))))
        = _root_.cast _ ((m.access r).write (Elt F) f w Finset.univ (m.view.emb (r.emb i)))
      rw [hφ i]
    · have hz' : ∀ i, φ i ≠ z := fun i hi => hz ⟨i, hi⟩
      rw [h₂ z hz', ← hf]
      refine congrArg (_root_.cast _) ?_
      refine View.write_of_not_mem _ _ _ fun hmem => ?_
      obtain ⟨x, -, hx'⟩ := Finset.mem_map.mp hmem
      have : m.view.emb (r.emb x) = m.view.emb (R.emb z) := hx'
      rw [← hφ x] at this
      exact hz' x (R.emb.injective (m.view.emb.injective this))
  iapply (wp_store 𝒱₀ (c : Thread nD τ) none Set.univ (m := m) (r := r) (w := w) (hx := hx) (hm := hm) (k := k) (f := f) hS) $$ H
  iintro H
  iapply Hk
  iapply (show (m.view.loc (c : Thread nD τ) ↦[(m.slice R hR).view.set]{fullShare} ((m.access r).write (Elt F) f w Finset.univ) : sProp 𝕄)
      ⊢ owns (c : Thread nD τ) (m.slice R hR) fullShare X' from by
    rw [← hv]; exact owns_intro (c : Thread nD τ) (m.slice R hR) fullShare _)
  iexact H

/-- A store through exactly the rectangle held. -/
theorem wp_store_owns (r : Rect sh) (hr : ∀ a, r.stride a = 1) {X : r.shape.Idx → Elt F e} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    (owns (c : Thread nD τ) (m.slice r hr) fullShare X : sProp 𝕄)
      ⊢ iprop((owns (c : Thread nD τ) (m.slice r hr) fullShare w -∗ WP c (k ⟨⟩) Q)
        -∗ WP c (.op (.store m r w Finset.univ hx hm) k) Q) :=
  wp_store_sub c r hr r id (fun _ => rfl) w (fun _ => rfl) fun z hz => absurd rfl (hz z)

end LoadStore

section Shares

variable (c : Dev nD) {sh : Shape} {e : EltTy} {sp : Space} (m : Memref sig .tc sp sh e)

/-- Elements that read `X` are held at contents `X`. -/
theorem owns_of_read {q : PosShare TreeShare} {f : Buf (Elt F) (m.view.loc (c : Thread nD τ))} {X : sh.Idx → Elt F e}
    (hf : m.view.read (Elt F) f = X) :
    (m.view.loc (c : Thread nD τ) ↦[m.view.set]{q} f : sProp 𝕄) ⊢ owns (c : Thread nD τ) m q X := by
  subst hf; exact owns_intro (c : Thread nD τ) m q f

/-- Elements just written hold what was written. -/
theorem owns_of_write {f : Buf (Elt F) (m.view.loc (c : Thread nD τ))} {w X : sh.Idx → Elt F e} (hw : w = X) :
    (m.view.loc (c : Thread nD τ) ↦[m.view.set]{fullShare} (m.view.write (Elt F) f w Finset.univ) : sProp 𝕄)
      ⊢ owns (c : Thread nD τ) m fullShare X :=
  owns_of_read c m (by rw [View.read_write_univ, hw])

/-- Held in full is held by halves. -/
theorem owns_halve (X : sh.Idx → Elt F e) :
    (owns (c : Thread nD τ) m fullShare X : sProp 𝕄)
      ⊢ iprop(owns (c : Thread nD τ) m fullShare.left X ∗ owns (c : Thread nD τ) m fullShare.right X) := by
  unfold owns
  iintro ⟨%f, %hf, H⟩
  ihave H' := (pointsTo_share (PosShare.mem_left_op_right fullShare)).1 $$ H
  icases H' with ⟨H1, H2⟩
  isplitl [H1]
  · iexists f; isplitr; · ipureintro; exact hf
    iexact H1
  · iexists f; isplitr; · ipureintro; exact hf
    iexact H2

/-- The halves, at the same contents, make the whole. -/
theorem owns_unhalve (X : sh.Idx → Elt F e) :
    iprop(owns (c : Thread nD τ) m fullShare.left X ∗ owns (c : Thread nD τ) m fullShare.right X)
      ⊢ (owns (c : Thread nD τ) m fullShare X : sProp 𝕄) := by
  unfold owns
  iintro ⟨⟨%f, %hf, H1⟩, ⟨%g, %hg, H2⟩⟩
  have e' : (m.view.loc (c : Thread nD τ) ↦[m.view.set]{fullShare.right} g : sProp 𝕄)
      = m.view.loc (c : Thread nD τ) ↦[m.view.set]{fullShare.right} f := pointsTo_congr fun i hi => by
    obtain ⟨x, -, rfl⟩ := Finset.mem_map.mp hi
    have := congrFun (hg.trans hf.symm) x
    simp only [View.read] at this
    exact (cast_inj _).mp this
  ihave H3 := (show (m.view.loc (c : Thread nD τ) ↦[m.view.set]{fullShare.right} g : sProp 𝕄)
      ⊢ m.view.loc (c : Thread nD τ) ↦[m.view.set]{fullShare.right} f from by rw [e']) $$ H2
  iexists f
  isplitr; · ipureintro; exact hf
  iapply (show (iprop((m.view.loc (c : Thread nD τ) ↦[m.view.set]{fullShare.left} f) ∗ m.view.loc (c : Thread nD τ) ↦[m.view.set]{fullShare.right} f) : sProp 𝕄)
      ⊢ (m.view.loc (c : Thread nD τ) ↦[m.view.set]{fullShare} f) from (pointsTo_share (PosShare.mem_left_op_right fullShare)).2)
  isplitl [H1]; · iexact H1
  iexact H3

/-- The squeezed memref is held at the contents of the memref, re-indexed. -/
theorem owns_squeeze {s' : Shape} (h : sh.Squeezes s') (q : PosShare TreeShare) (X : sh.Idx → Elt F e) :
    (owns (c : Thread nD τ) m q X : sProp 𝕄)
      ⊢ owns (c : Thread nD τ) (m.squeeze s' h) q (fun y => X (Shape.reshapeEquiv h.numel_eq y)) := by
  unfold owns
  iintro ⟨%f, %hf, H⟩
  iexists f
  isplitr
  · ipureintro; rw [← hf]; rfl
  · iapply (show (m.view.loc (c : Thread nD τ) ↦[m.view.set]{q} f : sProp 𝕄)
        ⊢ (m.view.loc (c : Thread nD τ) ↦[(m.view.reshape s' h.numel_eq).set]{q} f) from by rw [View.set_reshape])
    iexact H

/-- And back. -/
theorem owns_unsqueeze {s' : Shape} (h : sh.Squeezes s') (q : PosShare TreeShare) (X : sh.Idx → Elt F e) :
    (owns (c : Thread nD τ) (m.squeeze s' h) q (fun y => X (Shape.reshapeEquiv h.numel_eq y)) : sProp 𝕄)
      ⊢ owns (c : Thread nD τ) m q X := by
  unfold owns
  iintro ⟨%f, %hf, H⟩
  iexists f
  isplitr
  · ipureintro
    funext z
    have := congrFun hf ((Shape.reshapeEquiv h.numel_eq).symm z)
    dsimp only at this
    rw [Equiv.apply_symm_apply] at this
    rw [← this]
    show _ = _root_.cast _ (f (m.view.emb (Shape.reshapeEquiv h.numel_eq ((Shape.reshapeEquiv h.numel_eq).symm z))))
    rw [Equiv.apply_symm_apply]; rfl
  · iapply (show (m.view.loc (c : Thread nD τ) ↦[(m.view.reshape s' h.numel_eq).set]{q} f : sProp 𝕄)
        ⊢ (m.view.loc (c : Thread nD τ) ↦[m.view.set]{q} f) from by rw [View.set_reshape])
    iexact H

end Shares

end Cert.Ring

end
-- ==== Proof.Comm.lean ====
/-
The copies between the devices: starting one, waiting for one to land, waiting for one to have left.
Each is one step of the program, stated with what the device holds before and after.
-/
module

public import proofs.«01_k».proof.Proof.Ops

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and their invariants -/

/-- The semaphores that live as long as the kernel runs: the closing one, and (receive?, chain, sub-block, hop). -/
abbrev SK : Type := Option (Bool × Bool × Bool × Fin 15)

/-- The semaphore of a name. -/
def osem : SK → SemLoc sig
  | none => finS
  | some (r, x, j, h) => bif r then recvS x j h.val else sendS x j h.val

/-- What an own semaphore is for determines it. -/
theorem kind_osem (k : SK) : kindOf (osem k) = match k with
    | none => .fin | some (r, x, j, h) => bif r then .recv x j h.val else .send x j h.val := by
  rcases k with _ | ⟨r, x, j, h⟩
  · exact kind_fin
  · cases r
    · exact kind_send x j h.2
    · exact kind_recv x j h.2

/-- The kernel's own semaphores are named once each. -/
theorem osem_inj : Function.Injective osem := by
  intro a b hab
  have h := (kind_osem a).symm.trans ((congrArg kindOf hab).trans (kind_osem b))
  rcases a with _ | ⟨r, x, j, h1⟩ <;> rcases b with _ | ⟨r', x', j', h2⟩
  · rfl
  · cases r' <;> exact Kind.noConfusion h
  · cases r <;> exact Kind.noConfusion h
  · cases r <;> cases r' <;> simp only [cond_true, cond_false, Kind.send.injEq, Kind.recv.injEq, reduceCtorEq] at h
    · obtain ⟨rfl, rfl, h⟩ := h; rw [Fin.ext h]
    · obtain ⟨rfl, rfl, h⟩ := h; rw [Fin.ext h]

/-- None of them is the barrier's. -/
theorem osem_ne_bar (k : SK) : osem k ≠ barS := fun h => by
  have := (kind_osem k).symm.trans ((congrArg kindOf h).trans kind_bar)
  rcases k with _ | ⟨r, x, j, h1⟩
  · exact Kind.noConfusion this
  · cases r <;> exact Kind.noConfusion this

/-- The barrier's cells. -/
def barEmb : Dev nD ↪ GSem nD τ sig := ⟨fun c => barCell c, fun _ _ h => congrArg (fun g : GSem nD τ sig => g.1.1) h⟩
/-- The other cells. -/
def ownEmb : Dev nD × SK ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev ownCells : Finset (GSem nD τ sig) := Finset.univ.map ownEmb

/-- Every cell, as a set known only by its equation. -/
def allCells : Finset (GSem nD τ sig) := Classical.choose (⟨barCells ∪ ownCells, rfl⟩ : ∃ S : Finset (GSem nD τ sig), S = barCells ∪ ownCells)
/-- All cells are the barriers' and the kernel's own. -/
theorem allCells_eq : allCells = barCells ∪ ownCells := Classical.choose_spec (⟨barCells ∪ ownCells, rfl⟩ : ∃ S : Finset (GSem nD τ sig), S = barCells ∪ ownCells)

/-- Every cell's invariant, at the names `K`. -/
def AllInv (I : Inputs F) (K : GSem nD τ sig → ℕ) : sProp 𝕄 :=
  bigSep allCells fun g => cellInv ER (Rd I) (K g) g

/-- The invariants of all cells can be used again and again. -/
instance allInv_persistent (I : Inputs F) (K : GSem nD τ sig → ℕ) : BI.Persistent (AllInv I K) := by
  unfold AllInv; infer_instance

section
variable (I : Inputs F) (K : GSem nD τ sig → ℕ) (c : Dev nD)

/-- The invariant of any one cell. -/
theorem inv_of {g : GSem nD τ sig} (hg : g ∈ barCells ∪ ownCells) :
    (AllInv I K : sProp 𝕄) ⊢ cellInv ER (Rd I) (K g) g := by
  unfold AllInv; rw [allCells_eq]; exact bigSep_elim hg
/-- The invariant of a device's barrier cell. -/
theorem inv_bar : (AllInv I K : sProp 𝕄) ⊢ cellInv ER (Rd I) (K (barCell c)) (barCell c) :=
  inv_of I K (Finset.mem_union_left _ (Finset.mem_map.mpr ⟨c, Finset.mem_univ c, rfl⟩))
/-- The invariant of one of a device's own cells. -/
theorem inv_own (k : SK) : (AllInv I K : sProp 𝕄) ⊢ cellInv ER (Rd I) (K ((c : Thread nD τ), osem k)) ((c : Thread nD τ), osem k) :=
  inv_of I K (Finset.mem_union_right _ (Finset.mem_map.mpr ⟨(c, k), Finset.mem_univ _, rfl⟩))
/-- The invariant of a device's closing cell. -/
theorem inv_fin : (AllInv I K : sProp 𝕄) ⊢ cellInv ER (Rd I) (K (finCell c)) (finCell c) := inv_own I K c none
/-- The invariant of a send cell. -/
theorem inv_send (x j : Bool) {h : ℕ} (hh : h < 15) :
    (AllInv I K : sProp 𝕄) ⊢ cellInv ER (Rd I) (K (sendCell c x j h)) (sendCell c x j h) := inv_own I K c (some (false, x, j, ⟨h, hh⟩))
/-- The invariant of a receive cell. -/
theorem inv_recv (x j : Bool) {h : ℕ} (hh : h < 15) :
    (AllInv I K : sProp 𝕄) ⊢ cellInv ER (Rd I) (K (recvCell c x j h)) (recvCell c x j h) := inv_own I K c (some (true, x, j, ⟨h, hh⟩))
end

/-! ## What a device holds for one copy -/

/-- To start the copy of hop `h`: both duties' tokens, the target slot, the send cell's position. -/
def sendRes (c : Dev nD) (x j : Bool) (h : ℕ) : sProp 𝕄 :=
  iprop(dutyTok ER (sendCell c x j h) 0 false ∗ reached ER (sendCell c x j h) 0 ∗ atPos ER (sendCell c x j h) 0 ∅ 0
    ∗ dutyTok ER (recvCell (nxt x c) x j h) 0 false ∗ reached ER (recvCell (nxt x c) x j h) 0
    ∗ ∃ X, slotOwn (nxt x c) x j (h + 1) fullShare X)
/-- Once started: the credit to wait with, the send cell's position. -/
def sentRes (c : Dev nD) (x j : Bool) (h : ℕ) : sProp 𝕄 :=
  iprop(cred (tallyAt (sendCell c x j h) () N) ∗ atPos ER (sendCell c x j h) 0 ∅ 0)
/-- To wait for the arrival of hop `h`. -/
def recvRes (c : Dev nD) (x j : Bool) (h : ℕ) : sProp 𝕄 :=
  iprop(cred (tallyAt (recvCell c x j h) () N) ∗ atPos ER (recvCell c x j h) 0 ∅ 0)

section Steps

variable {α : Type} (I : Inputs F) (K : GSem nD τ sig → ℕ) (c : Dev nD)

/-- A cell whose one round is over is at zero. -/
theorem close {g : GSem nD τ sig} {κ : ℕ} :
    iprop(cellInv ER (Rd I) κ g ∗ atPos ER g (0 + 1) ∅ 0) ⊢ (|={Set.univ}=> semVal g 0 : sProp 𝕄) :=
  Rounds.cell_close ER (Rd I) (Set.mem_univ κ) id (duties_later I g)

/-- The wait for the arrival of hop `h`: slot `h + 1` is filled, and the semaphore is back at zero for good. -/
theorem wp_recv (x j : Bool) {h : ℕ} (hh : h < 15) {O : CellTallies nD τ sig Unit} (hO : Above (2 + h) O)
    {sp sp' : Space} {s s' : Shape} {e e' : EltTy} {sem : DmaSem sig} {srcM : Memref sig .tc sp' s' e'} {dstM : Memref sig .tc sp s e}
    (hsem : (SemLoc.dma sem : SemLoc sig) = recvS x j h) (hN : dstM.view.dmaCredit = N)
    {h₁ : srcM.view.WordExact} {h₂ : dstM.view.WordExact}
    {k : PUnit → Prog (TpuEff nD τ sig (Elt F) Λ₀ .tc) α} {Q : α → sProp 𝕄} :
    iprop(AllInv I K ∗ levAts L lv ∗ recvRes c x j h ∗ ∃ W, owes (c : Thread nD τ) O W)
      ⊢ iprop(((slotAt I c x j (h + 1) fullShare ∗ semVal (recvCell c x j h) 0 ∗ ∃ W, owes (c : Thread nD τ) O W) -∗ WP c (k ⟨⟩) Q)
        -∗ WP c (.op (.waitDma2 sem srcM dstM h₁ h₂) k) Q) := by
  unfold recvRes
  iintro ⟨#HI, #Hlev, ⟨Hc, Hat⟩, ⟨%W, HO⟩⟩ Hk
  ihave #Hi := (inv_recv I K c x j hh) $$ HI
  iapply (Rounds.wp_wait_rest_token 𝒱₀ ER (Rd I) (c : Thread nD τ) none (κ := K (recvCell c x j h)) (sm := recvS x j h) (k' := N)
      (fun K' => by rw [wpE_waitDma2_eq, hsem, hN]) (Set.mem_univ _) () (O := O) (W := W) (R := 0) (m := 0) (T := ∅)
      ((Nat.zero_add _).trans (expect_recv I c x j hh).symm)) $$ [Hc HO Hat]
  · isplitr; · iexact Hi
    isplitl [Hc]; · iexact Hc
    isplitl [HO]; · iexact HO
    isplitr
    · iapply (mayWait_of c (recvS x j h) (lv_recv c x j hh).le hO); iexact Hlev
    iexact Hat
  iintro ⟨HO, Hat, -, Hpay⟩
  ihave Hs := (Entails.of_eq (rest_recv I c x j hh)) $$ Hpay
  imod (close I (g := recvCell c x j h) (κ := K (recvCell c x j h))) $$ [Hat] with H0
  · isplitr; · iexact Hi
    iexact Hat
  iapply Hk
  isplitl [Hs]; · iexact Hs
  isplitl [H0]; · iexact H0
  iexists _; iexact HO

/-- The wait for the copy of hop `h` to have left: the lent half of slot `h` is back, and the semaphore at zero. -/
theorem wp_drain (x j : Bool) {h : ℕ} (hh : h < 15) {O : CellTallies nD τ sig Unit} (hO : Above 18 O)
    {sp sp' : Space} {s s' : Shape} {e e' : EltTy} {sem : DmaSem sig} {srcM : Memref sig .tc sp' s' e'} {dstM : Memref sig .tc sp s e}
    (hsem : (SemLoc.dma sem : SemLoc sig) = sendS x j h) (hN : dstM.view.dmaCredit = N)
    {h₁ : srcM.view.WordExact} {h₂ : dstM.view.WordExact}
    {k : PUnit → Prog (TpuEff nD τ sig (Elt F) Λ₀ .tc) α} {Q : α → sProp 𝕄} :
    iprop(AllInv I K ∗ levAts L lv ∗ sentRes c x j h ∗ ∃ W, owes (c : Thread nD τ) O W)
      ⊢ iprop(((slotAt I c x j h fullShare.right ∗ semVal (sendCell c x j h) 0 ∗ ∃ W, owes (c : Thread nD τ) O W) -∗ WP c (k ⟨⟩) Q)
        -∗ WP c (.op (.waitDma2 sem srcM dstM h₁ h₂) k) Q) := by
  unfold sentRes
  iintro ⟨#HI, #Hlev, ⟨Hc, Hat⟩, ⟨%W, HO⟩⟩ Hk
  ihave #Hi := (inv_send I K c x j hh) $$ HI
  iapply (Rounds.wp_wait_rest_token 𝒱₀ ER (Rd I) (c : Thread nD τ) none (κ := K (sendCell c x j h)) (sm := sendS x j h) (k' := N)
      (fun K' => by rw [wpE_waitDma2_eq, hsem, hN]) (Set.mem_univ _) () (O := O) (W := W) (R := 0) (m := 0) (T := ∅)
      ((Nat.zero_add _).trans (expect_send I c x j hh).symm)) $$ [Hc HO Hat]
  · isplitr; · iexact Hi
    isplitl [Hc]; · iexact Hc
    isplitl [HO]; · iexact HO
    isplitr
    · iapply (mayWait_of c (sendS x j h) (lv_send c x j hh).le hO); iexact Hlev
    iexact Hat
  iintro ⟨HO, Hat, -, Hpay⟩
  ihave Hs := (Entails.of_eq (rest_send I c x j hh)) $$ Hpay
  imod (close I (g := sendCell c x j h) (κ := K (sendCell c x j h))) $$ [Hat] with H0
  · isplitr; · iexact Hi
    iexact Hat
  iapply Hk
  isplitl [Hs]; · iexact Hs
  isplitl [H0]; · iexact H0
  iexists _; iexact HO

/-- Starting the copy of hop `h`: half of slot `h` is lent, one copy less is owed. -/
theorem wp_enq (x j : Bool) {h : ℕ} (hh : h < 15) {O : CellTallies nD τ sig Unit}
    {d : Dev nD} {ss rs : DmaSem sig} {srcM dstM : Memref sig .tc .vmem S2x4x64x256 .bf16}
    (hd : d = nxt x c) (hs : srcM = slotM x j h) (ht : dstM = slotM x j (h + 1))
    (hss : (SemLoc.dma ss : SemLoc sig) = sendS x j h) (hrs : (SemLoc.dma rs : SemLoc sig) = recvS x j h)
    {hsc : dstM.view.ref.isScScratch = false} {h₁ : srcM.view.WordExact} {h₂ : dstM.view.WordExact}
    {h₃ : DmaTarget.Typed (nD := nD) (τ := τ) (p := .tc) .vmem (.dma rs) (.remote (Dev.tc d) dstM (.dma ss) hsc)}
    {k : PUnit → Prog (TpuEff nD τ sig (Elt F) Λ₀ .tc) α} {Q : α → sProp 𝕄} :
    iprop(AllInv I K ∗ slotAt I c x j h fullShare ∗ sendRes c x j h ∗ ∃ W, owes (c : Thread nD τ) (O + owedCopy c h x j) W)
      ⊢ iprop(((slotAt I c x j h fullShare.left ∗ sentRes c x j h ∗ ∃ W, owes (c : Thread nD τ) O W) -∗ WP c (k ⟨⟩) Q)
        -∗ WP c (.op (.enqueueDma srcM (.remote (Dev.tc d) dstM (.dma ss) hsc) (.dma rs) h₁ h₂ h₃) k) Q) := by
  subst hd hs ht
  generalize hsS : (SemLoc.dma ss : SemLoc sig) = sS at *
  generalize hrS : (SemLoc.dma rs : SemLoc sig) = rS at *
  subst hss hrs
  unfold sendRes sentRes
  iintro ⟨#HI, Hsl, ⟨HtS, #HrS, HatS, HtV, #HrV, ⟨%X, Hdst⟩⟩, ⟨%W, HO⟩⟩ Hk
  ihave #HiS := (inv_send I K c x j hh) $$ HI
  ihave #HiV := (inv_recv I K (nxt x c) x j hh) $$ HI
  ihave Hh := (owns_halve c (slotL x j h) _) $$ Hsl
  icases Hh with ⟨Hl, Hr⟩
  ihave Hr' := (owns_squeeze c (slotL x j h) squeezes_S1x1x2x4x64x256_S2x4x64x256 fullShare.right _) $$ Hr
  ihave Hd' := (owns_squeeze (nxt x c) (slotL x j (h + 1)) squeezes_S1x1x2x4x64x256_S2x4x64x256 fullShare _) $$ Hdst
  ihave Hr2 := (owns_open (m := slotM x j h) c fullShare.right _) $$ Hr'
  icases Hr2 with ⟨%fs, %hfs, Hr⟩
  ihave Hd2 := (owns_open (m := slotM x j (h + 1)) (nxt x c) fullShare _) $$ Hd'
  icases Hd2 with ⟨%fd, %hfd, Hd⟩
  iapply (Rounds.wp_send_pointsTo 𝒱₀ ER (Rd I) (c : Thread nD τ) none (c' := (nxt x c : Thread nD τ))
      (src := slotM x j h) (dst := slotM x j (h + 1)) (sS := sendS x j h) (sem := recvS x j h) (q := fullShare.right)
      (fs := fs) (fd := fd) (r₁ := 0) (r₂ := 0) (d₁ := false) (d₂ := false)
      (κ₁ := K (sendCell c x j h)) (κ₂ := K (recvCell (nxt x c) x j h))
      (by rw [duties_send I c x j hh]; exact Finset.mem_singleton_self _)
      (by rw [duties_recv I (nxt x c) x j hh]; exact Finset.mem_singleton_self _)
      () () N (slot_credit x j (h + 1)) (amount_send I c x j hh false) (amount_recv I (nxt x c) x j hh false) O rfl
      (by
        rw [payload_send I c x j hh]
        iintro H
        iapply (owns_unsqueeze c (slotL x j h) squeezes_S1x1x2x4x64x256_S2x4x64x256 fullShare.right (slotV I x j h c))
        iapply (owns_of_read c (slotM x j h) hfs)
        iexact H)
      (by
        rw [payload_recv I (nxt x c) x j hh]; unfold slotAt; rw [slotV_nxt]
        iintro H
        iapply (owns_unsqueeze (nxt x c) (slotL x j (h + 1)) squeezes_S1x1x2x4x64x256_S2x4x64x256 fullShare (slotV I x j h c))
        iapply (owns_of_write (nxt x c) (slotM x j (h + 1)) hfs)
        iexact H)) $$ [Hr Hd HO HtS HtV]
  · isplitr; · iexact HiS
    isplitr; · iexact HiV
    isplitl [Hr]; · iexact Hr
    isplitl [Hd]; · iexact Hd
    isplitl [HO]; · iexact HO
    isplitl [HtS]; · iexact HtS
    isplitr; · iexact HrS
    isplitl [HtV]; · iexact HtV
    iexact HrV
  iintro ⟨Hc, HO⟩
  iapply Hk
  isplitl [Hl]; · iexact Hl
  isplitl [Hc HatS]
  · isplitl [Hc]; · iexact Hc
    iexact HatS
  iexists _; iexact HO

end Steps

end Cert.Ring

end
-- ==== Proof.Attn.lean ====
/-
One step of the attention of one block of four heads against one slot: the loads, the three stores,
and the state they leave. The state after `n + 1` slots is a recursion on `n`.
-/
module

public import proofs.«01_k».proof.Proof.Comm

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Reading and filling a slot -/

/-- The place in a slot of an index of its keys (`b = false`) or of its values (`b = true`). -/
def inHalf (b : Bool) (i : S1x1x1x4x64x256.Idx) : S1x1x2x4x64x256.Idx
  | ⟨0, _⟩ => (i 0 : Fin 1) | ⟨1, _⟩ => (i 1 : Fin 1) | ⟨2, _⟩ => (⟨b.toNat, by cases b <;> decide⟩ : Fin 2)
  | ⟨3, _⟩ => (i 3 : Fin 4) | ⟨4, _⟩ => (i 4 : Fin 64) | ⟨5, _⟩ => (i 5 : Fin 256)

/-- Where the keys or the values of slot `s`, sub-block `j`, start in the buffer. -/
abbrev halfOff (s : ℕ) (j b : Bool) : Fin 6 → ℕ := ![s % 16, j.toNat, b.toNat, 0, 0, 0]

/-- The keys or the values of a slot lie within the buffer. -/
theorem half_inb (s : ℕ) (j b : Bool) : ∀ a, halfOff s j b a + S1x1x1x4x64x256.size a ≤ S16x2x2x4x64x256.size a := by
  have : s % 16 < 16 := Nat.mod_lt _ (by decide)
  unfold halfOff
  generalize s % 16 = n at this ⊢
  revert j b n; decide

abbrev halfR (s : ℕ) (j b : Bool) : Rect S16x2x2x4x64x256 :=
  Rect.unit (s := S16x2x2x4x64x256) (halfOff s j b) S1x1x1x4x64x256.size (half_inb s j b)

/-- An index of a slot's keys or values, taken through the slot, is that index of the buffer. -/
theorem half_emb (s : ℕ) (j b : Bool) (i : S1x1x1x4x64x256.Idx) : (slotR s j).emb (inHalf b i) = (halfR s j b).emb i := by
  funext a
  apply Fin.ext
  fin_cases a
  · rfl
  · rfl
  · have h0 : (i 2).val = 0 := by have : (i 2).val < 1 := (i 2).isLt; omega
    show 0 + 1 * b.toNat = b.toNat + 1 * (i 2).val
    omega
  · rfl
  · rfl
  · rfl

/-- Forgetting the choice of keys or values undoes making it. -/
theorem halfIdx_inHalf (b : Bool) (i : S1x1x1x4x64x256.Idx) : halfIdx (inHalf b i) = i := by
  funext a
  apply Fin.ext
  fin_cases a
  · rfl
  · rfl
  · show 0 = (i 2).val
    have : (i 2).val < 1 := (i 2).isLt
    omega
  · rfl
  · rfl
  · rfl

/-- Making the choice an index has, of keys or values, gives the index back. -/
theorem inHalf_halfIdx (b : Bool) (z : S1x1x2x4x64x256.Idx) (h : (z 2).val = b.toNat) : inHalf b (halfIdx z) = z := by
  funext a
  apply Fin.ext
  fin_cases a
  · rfl
  · rfl
  · exact h.symm
  · rfl
  · rfl
  · rfl

/-- A packed slot read at its keys or values gives what was packed. -/
theorem pack_inHalf (K V : Vec F S1x1x1x4x64x256 .bf16) (b : Bool) (i : S1x1x1x4x64x256.Idx) :
    pack K V (inHalf b i) = (bif b then V else K) i := by
  unfold pack
  rw [halfIdx_inHalf]
  cases b
  · exact if_pos rfl
  · exact if_neg (by show ¬ (1 = 0); decide)

/-- Any contents of a slot are a packing. -/
theorem eq_pack (X : Vec F S1x1x2x4x64x256 .bf16) : X = pack (fun i => X (inHalf false i)) (fun i => X (inHalf true i)) := by
  funext z
  unfold pack
  by_cases h : (z 2).val = 0
  · rw [if_pos h]; show X z = X (inHalf false (halfIdx z)); rw [inHalf_halfIdx false z h]
  · rw [if_neg h]; show X z = X (inHalf true (halfIdx z))
    rw [inHalf_halfIdx true z (by have : (z 2).val < 2 := (z 2).isLt; show (z 2).val = 1; omega)]

section Half

variable {α : Type} (c : Dev nD) (x j b : Bool) (s : ℕ)

/-- A load of a slot's keys or values. -/
theorem wp_load_half {q : PosShare TreeShare} {K V : Vec F S1x1x1x4x64x256 .bf16} {m : Memref sig .tc .vmem S16x2x2x4x64x256 .bf16} (hm : m = kvM x)
    {off : Fin 6 → ℕ} (hoff : off = halfOff s j b) {inb : ∀ a, off a + S1x1x1x4x64x256.size a ≤ S16x2x2x4x64x256.size a}
    {hl : m.view.LoadsAt (Rect.unit (s := S16x2x2x4x64x256) off S1x1x1x4x64x256.size inb).toLoadRect}
    {k : Vec F S1x1x1x4x64x256 .bf16 → Prog (TpuEff nD τ sig (Elt F) Λ₀ .tc) α} {Q : α → sProp 𝕄} :
    (slotOwn c x j s q (pack K V) : sProp 𝕄)
      ⊢ iprop((slotOwn c x j s q (pack K V) -∗ WP c (k (bif b then V else K)) Q)
        -∗ WP c (.op (.load m (Rect.unit (s := S16x2x2x4x64x256) off S1x1x1x4x64x256.size inb).toLoadRect hl) k) Q) := by
  subst hm hoff
  rw [← show (fun i => pack K V (inHalf b i)) = (bif b then V else K) from funext fun i => pack_inHalf K V b i]
  exact wp_load_sub c (slotR s j) (fun _ => rfl) (halfR s j b) (inHalf b) (half_emb s j b)

/-- A store of a slot's keys or values. -/
theorem wp_store_half {K V W : Vec F S1x1x1x4x64x256 .bf16} {m : Memref sig .tc .vmem S16x2x2x4x64x256 .bf16} (hm : m = kvM x)
    {off : Fin 6 → ℕ} (hoff : off = halfOff s j b) {inb : ∀ a, off a + S1x1x1x4x64x256.size a ≤ S16x2x2x4x64x256.size a}
    {hx : (m.access (Rect.unit (s := S16x2x2x4x64x256) off S1x1x1x4x64x256.size inb)).Stores Finset.univ} {hu}
    {k : PUnit → Prog (TpuEff nD τ sig (Elt F) Λ₀ .tc) α} {Q : α → sProp 𝕄} :
    (slotOwn c x j s fullShare (pack K V) : sProp 𝕄)
      ⊢ iprop((slotOwn c x j s fullShare (pack (bif b then K else W) (bif b then W else V)) -∗ WP c (k ⟨⟩) Q)
        -∗ WP c (.op (.store m (Rect.unit (s := S16x2x2x4x64x256) off S1x1x1x4x64x256.size inb) W Finset.univ hx hu) k) Q) := by
  subst hm hoff
  refine wp_store_sub c (slotR s j) (fun _ => rfl) (halfR s j b) (inHalf b) (half_emb s j b) _ (fun i => ?_) (fun z hz => ?_)
  · rw [pack_inHalf]; cases b <;> rfl
  · have hne : (z 2).val ≠ b.toNat := fun h => hz (halfIdx z) (inHalf_halfIdx b z h)
    have h2 : (z 2).val < 2 := (z 2).isLt
    unfold pack
    cases b
    · have h0 : ¬ (z 2).val = 0 := hne
      rw [if_neg h0, if_neg h0]; rfl
    · have h0 : (z 2).val = 0 := by have : (z 2).val ≠ 1 := hne; omega
      rw [if_pos h0, if_pos h0]; rfl

end Half

/-! ## The running state of four heads -/

/-- The running maximum, sum and weighted sum of four heads. -/
structure Blk (F : FTy → Type) where
  m : Vec F S4x256 .f32
  l : Vec F S4x256 .f32
  o : Vec F S4x64x256 .f32

/-- The state after one slot. -/
def blk0 (q : Vec F S4x64x256 .bf16) (k v : Vec F S1x1x1x4x64x256 .bf16) : Blk F :=
  ⟨k0_pay46 (k0_pay42 q k), k0_pay44 (k0_pay43 q k), k0_pay45 (k0_pay40 v) (k0_pay43 q k)⟩

/-- The state after one more slot. -/
def blkS (q : Vec F S4x64x256 .bf16) (k v : Vec F S1x1x1x4x64x256 .bf16) (B : Blk F) : Blk F :=
  ⟨k0_pay10 (k0_pay1 q) (k0_pay2 k) B.m, k0_pay8 (k0_pay1 q) (k0_pay2 k) B.m B.m B.l,
    k0_pay9 (k0_pay1 q) (k0_pay2 k) (k0_pay3 v) B.m B.m B.o⟩

/-- The state of chain `x`, sub-block `j`, on device `c` after `n + 1` slots. -/
def blk (I : Inputs F) (x j : Bool) (c : Dev nD) : ℕ → Blk F
  | 0 => blk0 (rows x j (I.q c)) (asSlot (rows x j (I.k (src x 0 c)))) (asSlot (rows x j (I.v (src x 0 c))))
  | n + 1 => blkS (rows x j (I.q c)) (asSlot (rows x j (I.k (src x (n + 1) c)))) (asSlot (rows x j (I.v (src x (n + 1) c)))) (blk I x j c n)

/-- Device `c` holds the state of four heads. -/
def lane (c : Dev nD) (x j : Bool) (B : Blk F) : sProp 𝕄 :=
  iprop(owns (c : Thread nD τ) ((Memref.whole cc0_scratch3).slice (rowR2 x j) (fun _ => rfl)) fullShare B.m
    ∗ owns (c : Thread nD τ) ((Memref.whole cc0_scratch4).slice (rowR2 x j) (fun _ => rfl)) fullShare B.l
    ∗ owns (c : Thread nD τ) ((Memref.whole cc0_scratch2).slice (rowR x j) (fun _ => rfl)) fullShare B.o)

section Step

variable {α : Type} (c : Dev nD) (x j : Bool) (s : ℕ)

abbrev rowOff (x j : Bool) : Fin 3 → ℕ := ![8 * x.toNat + 4 * j.toNat, 0, 0]
abbrev rowOff2 (x j : Bool) : Fin 2 → ℕ := ![8 * x.toNat + 4 * j.toNat, 0]

/-- The first slot of four heads: whatever the state's buffers held, they hold what the payloads make. -/
theorem wp_attn0 {q : PosShare TreeShare} {K V : Vec F S1x1x1x4x64x256 .bf16} {X : Vec F S16x64x256 .bf16} {B : Blk F}
    {mq : Memref sig .tc .vmem S16x64x256 .bf16} {mk : Memref sig .tc .vmem S16x2x2x4x64x256 .bf16} (hmk : mk = kvM x)
    {oq oo : Fin 3 → ℕ} {ok ov : Fin 6 → ℕ} {om : Fin 2 → ℕ}
    (hq : oq = rowOff x j) (hk : ok = halfOff s j false) (hv : ov = halfOff s j true) (hm : om = rowOff2 x j) (ho : oo = rowOff x j)
    {iq : ∀ a, oq a + S4x64x256.size a ≤ S16x64x256.size a} {ik : ∀ a, ok a + S1x1x1x4x64x256.size a ≤ S16x2x2x4x64x256.size a}
    {iv : ∀ a, ov a + S1x1x1x4x64x256.size a ≤ S16x2x2x4x64x256.size a} {im : ∀ a, om a + S4x256.size a ≤ S16x256.size a}
    {io : ∀ a, oo a + S4x64x256.size a ≤ S16x64x256.size a}
    {hlq} {hlk} {hlv} {hlm} {hll} {hlo} {hsl} {hsl'} {hso} {hso'} {hsm} {hsm'}
    {pl : Vec F S4x64x256 .bf16 → Vec F S1x1x1x4x64x256 .bf16 → Vec F S1x1x1x4x64x256 .bf16 → Vec F S4x256 .f32 → Vec F S4x256 .f32}
    {po : Vec F S4x64x256 .bf16 → Vec F S1x1x1x4x64x256 .bf16 → Vec F S1x1x1x4x64x256 .bf16 → Vec F S4x256 .f32 → Vec F S4x64x256 .f32 → Vec F S4x64x256 .f32}
    {pm : Vec F S4x64x256 .bf16 → Vec F S1x1x1x4x64x256 .bf16 → Vec F S1x1x1x4x64x256 .bf16 → Vec F S4x256 .f32 → Vec F S4x64x256 .f32 → Vec F S4x256 .f32 → Vec F S4x256 .f32}
    {kk : Vec F S4x64x256 .bf16 → Vec F S1x1x1x4x64x256 .bf16 → Vec F S1x1x1x4x64x256 .bf16 → Vec F S4x256 .f32 → Vec F S4x64x256 .f32 → Vec F S4x256 .f32 → Prog (TpuEff nD τ sig (Elt F) Λ₀ .tc) α}
    {Q : α → sProp 𝕄} :
    iprop(owns (c : Thread nD τ) mq fullShare X ∗ slotOwn c x j s q (pack K V) ∗ lane c x j B)
      ⊢ iprop(((owns (c : Thread nD τ) mq fullShare X ∗ slotOwn c x j s q (pack K V)
            ∗ lane c x j ⟨pm (rows x j X) K V B.l B.o B.m, pl (rows x j X) K V B.l, po (rows x j X) K V B.l B.o⟩) -∗ WP c (kk (rows x j X) K V B.l B.o B.m) Q)
        -∗ WP c (.op (.load mq (Rect.unit (s := S16x64x256) oq S4x64x256.size iq).toLoadRect hlq) fun vq =>
          .op (.load mk (Rect.unit (s := S16x2x2x4x64x256) ok S1x1x1x4x64x256.size ik).toLoadRect hlk) fun vk =>
          .op (.load mk (Rect.unit (s := S16x2x2x4x64x256) ov S1x1x1x4x64x256.size iv).toLoadRect hlv) fun vv =>
          .op (.load (Memref.whole cc0_scratch4) (Rect.unit (s := S16x256) om S4x256.size im).toLoadRect hll) fun vl =>
          .op (.store (Memref.whole cc0_scratch4) (Rect.unit (s := S16x256) om S4x256.size im) (pl vq vk vv vl) Finset.univ hsl hsl') fun _ =>
          .op (.load (Memref.whole cc0_scratch2) (Rect.unit (s := S16x64x256) oo S4x64x256.size io).toLoadRect hlo) fun vo =>
          .op (.store (Memref.whole cc0_scratch2) (Rect.unit (s := S16x64x256) oo S4x64x256.size io) (po vq vk vv vl vo) Finset.univ hso hso') fun _ =>
          .op (.load (Memref.whole cc0_scratch3) (Rect.unit (s := S16x256) om S4x256.size im).toLoadRect hlm) fun vm =>
          .op (.store (Memref.whole cc0_scratch3) (Rect.unit (s := S16x256) om S4x256.size im) (pm vq vk vv vl vo vm) Finset.univ hsm hsm') fun _ =>
          kk vq vk vv vl vo vm) Q) := by
  subst hq hm ho
  unfold lane
  iintro ⟨Hq, Hs, Hm, Hl, Ho⟩ Hk
  iapply (wp_load_part c (rowR x j)) $$ Hq
  iintro Hq
  iapply (wp_load_half c x j false s hmk hk) $$ Hs
  iintro Hs
  iapply (wp_load_half c x j true s hmk hv) $$ Hs
  iintro Hs
  iapply (wp_load_owns c (rowR2 x j) (fun _ => rfl)) $$ Hl
  iintro Hl
  iapply (wp_store_owns c (rowR2 x j) (fun _ => rfl)) $$ Hl
  iintro Hl
  iapply (wp_load_owns c (rowR x j) (fun _ => rfl)) $$ Ho
  iintro Ho
  iapply (wp_store_owns c (rowR x j) (fun _ => rfl)) $$ Ho
  iintro Ho
  iapply (wp_load_owns c (rowR2 x j) (fun _ => rfl)) $$ Hm
  iintro Hm
  iapply (wp_store_owns c (rowR2 x j) (fun _ => rfl)) $$ Hm
  iintro Hm
  iapply Hk
  isplitl [Hq]; · iexact Hq
  isplitl [Hs]; · iexact Hs
  isplitl [Hm]; · iexact Hm
  isplitl [Hl]; · iexact Hl
  iexact Ho

/-- One more slot of four heads: the state's buffers hold what the payloads make of what they held. -/
theorem wp_attn {q : PosShare TreeShare} {K V : Vec F S1x1x1x4x64x256 .bf16} {X : Vec F S16x64x256 .bf16} {B : Blk F}
    {mq : Memref sig .tc .vmem S16x64x256 .bf16} {mk : Memref sig .tc .vmem S16x2x2x4x64x256 .bf16} (hmk : mk = kvM x)
    {oq oo : Fin 3 → ℕ} {ok ov : Fin 6 → ℕ} {om : Fin 2 → ℕ}
    (hq : oq = rowOff x j) (hk : ok = halfOff s j false) (hv : ov = halfOff s j true) (hm : om = rowOff2 x j) (ho : oo = rowOff x j)
    {iq : ∀ a, oq a + S4x64x256.size a ≤ S16x64x256.size a} {ik : ∀ a, ok a + S1x1x1x4x64x256.size a ≤ S16x2x2x4x64x256.size a}
    {iv : ∀ a, ov a + S1x1x1x4x64x256.size a ≤ S16x2x2x4x64x256.size a} {im : ∀ a, om a + S4x256.size a ≤ S16x256.size a}
    {io : ∀ a, oo a + S4x64x256.size a ≤ S16x64x256.size a}
    {hlq} {hlk} {hlv} {hlm} {hlm2} {hlm3} {hll} {hll2} {hlo} {hlo2} {hsl} {hsl'} {hso} {hso'} {hsm} {hsm'}
    {pl : Vec F S4x64x256 .bf16 → Vec F S1x1x1x4x64x256 .bf16 → Vec F S1x1x1x4x64x256 .bf16 → Vec F S4x256 .f32 → Vec F S4x256 .f32 → Vec F S4x256 .f32 → Vec F S4x256 .f32 → Vec F S4x256 .f32}
    {po : Vec F S4x64x256 .bf16 → Vec F S1x1x1x4x64x256 .bf16 → Vec F S1x1x1x4x64x256 .bf16 → Vec F S4x256 .f32 → Vec F S4x256 .f32 → Vec F S4x256 .f32 → Vec F S4x256 .f32 → Vec F S4x64x256 .f32 → Vec F S4x64x256 .f32 → Vec F S4x64x256 .f32}
    {pm : Vec F S4x64x256 .bf16 → Vec F S1x1x1x4x64x256 .bf16 → Vec F S1x1x1x4x64x256 .bf16 → Vec F S4x256 .f32 → Vec F S4x256 .f32 → Vec F S4x256 .f32 → Vec F S4x256 .f32 → Vec F S4x64x256 .f32 → Vec F S4x64x256 .f32 → Vec F S4x256 .f32 → Vec F S4x256 .f32}
    {kk : Prog (TpuEff nD τ sig (Elt F) Λ₀ .tc) α} {Q : α → sProp 𝕄} :
    iprop(owns (c : Thread nD τ) mq fullShare X ∗ slotOwn c x j s q (pack K V) ∗ lane c x j B)
      ⊢ iprop(((owns (c : Thread nD τ) mq fullShare X ∗ slotOwn c x j s q (pack K V)
            ∗ lane c x j ⟨pm (rows x j X) K V B.m B.m B.l B.l B.o B.o B.m, pl (rows x j X) K V B.m B.m B.l B.l,
                po (rows x j X) K V B.m B.m B.l B.l B.o B.o⟩) -∗ WP c kk Q)
        -∗ WP c (.op (.load mq (Rect.unit (s := S16x64x256) oq S4x64x256.size iq).toLoadRect hlq) fun vq =>
          .op (.load mk (Rect.unit (s := S16x2x2x4x64x256) ok S1x1x1x4x64x256.size ik).toLoadRect hlk) fun vk =>
          .op (.load mk (Rect.unit (s := S16x2x2x4x64x256) ov S1x1x1x4x64x256.size iv).toLoadRect hlv) fun vv =>
          .op (.load (Memref.whole cc0_scratch3) (Rect.unit (s := S16x256) om S4x256.size im).toLoadRect hlm) fun vm =>
          .op (.load (Memref.whole cc0_scratch3) (Rect.unit (s := S16x256) om S4x256.size im).toLoadRect hlm2) fun vm' =>
          .op (.load (Memref.whole cc0_scratch4) (Rect.unit (s := S16x256) om S4x256.size im).toLoadRect hll) fun vl =>
          .op (.load (Memref.whole cc0_scratch4) (Rect.unit (s := S16x256) om S4x256.size im).toLoadRect hll2) fun vl' =>
          .op (.store (Memref.whole cc0_scratch4) (Rect.unit (s := S16x256) om S4x256.size im) (pl vq vk vv vm vm' vl vl') Finset.univ hsl hsl') fun _ =>
          .op (.load (Memref.whole cc0_scratch2) (Rect.unit (s := S16x64x256) oo S4x64x256.size io).toLoadRect hlo) fun vo =>
          .op (.load (Memref.whole cc0_scratch2) (Rect.unit (s := S16x64x256) oo S4x64x256.size io).toLoadRect hlo2) fun vo' =>
          .op (.store (Memref.whole cc0_scratch2) (Rect.unit (s := S16x64x256) oo S4x64x256.size io) (po vq vk vv vm vm' vl vl' vo vo') Finset.univ hso hso') fun _ =>
          .op (.load (Memref.whole cc0_scratch3) (Rect.unit (s := S16x256) om S4x256.size im).toLoadRect hlm3) fun vm'' =>
          .op (.store (Memref.whole cc0_scratch3) (Rect.unit (s := S16x256) om S4x256.size im) (pm vq vk vv vm vm' vl vl' vo vo' vm'') Finset.univ hsm hsm') fun _ =>
          kk) Q) := by
  subst hq hm ho
  unfold lane
  iintro ⟨Hq, Hs, Hm, Hl, Ho⟩ Hk
  iapply (wp_load_part c (rowR x j)) $$ Hq
  iintro Hq
  iapply (wp_load_half c x j false s hmk hk) $$ Hs
  iintro Hs
  iapply (wp_load_half c x j true s hmk hv) $$ Hs
  iintro Hs
  iapply (wp_load_owns c (rowR2 x j) (fun _ => rfl)) $$ Hm
  iintro Hm
  iapply (wp_load_owns c (rowR2 x j) (fun _ => rfl)) $$ Hm
  iintro Hm
  iapply (wp_load_owns c (rowR2 x j) (fun _ => rfl)) $$ Hl
  iintro Hl
  iapply (wp_load_owns c (rowR2 x j) (fun _ => rfl)) $$ Hl
  iintro Hl
  iapply (wp_store_owns c (rowR2 x j) (fun _ => rfl)) $$ Hl
  iintro Hl
  iapply (wp_load_owns c (rowR x j) (fun _ => rfl)) $$ Ho
  iintro Ho
  iapply (wp_load_owns c (rowR x j) (fun _ => rfl)) $$ Ho
  iintro Ho
  iapply (wp_store_owns c (rowR x j) (fun _ => rfl)) $$ Ho
  iintro Ho
  iapply (wp_load_owns c (rowR2 x j) (fun _ => rfl)) $$ Hm
  iintro Hm
  iapply (wp_store_owns c (rowR2 x j) (fun _ => rfl)) $$ Hm
  iintro Hm
  iapply Hk
  isplitl [Hq]; · iexact Hq
  isplitl [Hs]; · iexact Hs
  isplitl [Hm]; · iexact Hm
  isplitl [Hl]; · iexact Hl
  iexact Ho

end Step

end Cert.Ring

end
-- ==== Proof.Hops.lean ====
/-
The steps of one chain and sub-block as a device takes them: the opening handshake, the first copy, a hop
(wait for a slot, pass it on), the last wait, the drain of the sends, the closing handshake.
-/
module

public import proofs.«01_k».proof.Proof.Attn
public import Idealize.SL.BI.BigOpNat

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The names the kernel gives to slots, semaphores and devices -/

/-- The kernel's semaphore arrays: of arrivals (`r`) or departures, of chain `x`. -/
def semA (r x : Bool) : DmaSems sig S15x2 :=
  bif r then (bif x then cc0_scratch8 else cc0_scratch6) else (bif x then cc0_scratch7 else cc0_scratch5)

/-- The index of hop `h`, sub-block `j`, in a semaphore array. -/
def at2 (h : Fin 15) (j : Bool) : S15x2.Idx
  | ⟨0, _⟩ => (h : Fin 15) | ⟨1, _⟩ => (⟨j.toNat, by cases j <;> decide⟩ : Fin 2)

/-- Where the semaphore of a hop and sub-block lies in its array. -/
theorem at2_rowMajor (h : Fin 15) (j : Bool) : (S15x2.rowMajor (at2 h j)).val = 2 * h.val + j.toNat := by
  revert h j; decide +kernel

/-- The array's semaphore at a hop and sub-block. -/
theorem semA_at (r x j : Bool) (h : Fin 15) :
    (SemLoc.dma ((semA r x).ix (at2 h j)) : SemLoc sig) = bif r then recvS x j h else sendS x j h := by
  have e := at2_rowMajor h j
  have hj : j.toNat < 2 := by cases j <;> decide
  have hh := h.isLt
  cases r <;> cases x <;> refine congrArg SemLoc.dma (Fin.ext ?_)
  all_goals
    simp only [semA, cond_false, cond_true, SemArray.consecutive, cc0_scratch5, cc0_scratch6, cc0_scratch7, cc0_scratch8]
    rw [e]
    simp only [Bool.toNat_false, Bool.toNat_true, Fin.ofNat]
    omega

/-- A printed semaphore is the protocol's. -/
theorem sem_eq (r x j : Bool) {h : ℕ} (hh : h < 15) {A : DmaSems sig S15x2} (hA : A = semA r x) {off : Fin 2 → ℕ} (ho : off = ![h, j.toNat])
    {inb : ∀ a, off a + S1x1.size a ≤ S15x2.size a} {hsq : S1x1.Squeezes S_} :
    (SemLoc.dma ((A.slice (Rect.unit (s := S15x2) off S1x1.size inb)).squeeze S_ hsq).sem : SemLoc sig)
      = bif r then recvS x j h else sendS x j h := by
  subst hA ho
  rw [← semA_at r x j ⟨h, hh⟩]
  refine congrArg (fun i => (SemLoc.dma ((semA r x).ix i) : SemLoc sig)) ?_
  funext a
  apply Fin.ext
  have h0 : ∀ (z : S1x1.Idx) a, (z a).val = 0 := by decide +kernel
  fin_cases a
  · show h + 1 * (_ : ℕ) = h
    rw [h0]; omega
  · show j.toNat + 1 * (_ : ℕ) = j.toNat
    rw [h0]; omega

/-- A printed slot is the protocol's. -/
theorem slotM_eq (x j : Bool) {s : ℕ} (hs : s < 16) {m : Memref sig .tc .vmem S16x2x2x4x64x256 .bf16} (hm : m = kvM x) {off : Fin 6 → ℕ}
    (ho : off = ![s, j.toNat, 0, 0, 0, 0]) {inb : ∀ a, off a + S1x1x2x4x64x256.size a ≤ S16x2x2x4x64x256.size a} {hst}
    {hsq : S1x1x2x4x64x256.Squeezes S2x4x64x256} :
    (m.slice (Rect.unit (s := S16x2x2x4x64x256) off S1x1x2x4x64x256.size inb) hst).squeeze S2x4x64x256 hsq = slotM x j s := by
  have h2 : off = slotOff s j := by rw [ho]; unfold slotOff; rw [Nat.mod_eq_of_lt hs]
  subst hm h2
  rfl

/-- A printed copy's credit is a slot's. -/
theorem credit_eq (x j : Bool) {s : ℕ} (hs : s < 16) {m : Memref sig .tc .vmem S16x2x2x4x64x256 .bf16} (hm : m = kvM x) {off : Fin 6 → ℕ}
    (ho : off = ![s, j.toNat, 0, 0, 0, 0]) {inb : ∀ a, off a + S1x1x2x4x64x256.size a ≤ S16x2x2x4x64x256.size a} {hst}
    {hsq : S1x1x2x4x64x256.Squeezes S2x4x64x256} :
    ((m.slice (Rect.unit (s := S16x2x2x4x64x256) off S1x1x2x4x64x256.size inb) hst).squeeze S2x4x64x256 hsq).view.dmaCredit = N := by
  rw [slotM_eq x j hs hm ho]; exact slot_credit x j s

/-- A printed offset of keys or values is the protocol's. -/
theorem half_eq {s : ℕ} (hs : s < 16) (j b : Bool) {off : Fin 6 → ℕ} (ho : off = ![s, j.toNat, b.toNat, 0, 0, 0]) : off = halfOff s j b := by
  rw [ho]; unfold halfOff; rw [Nat.mod_eq_of_lt hs]

/-- A printed neighbour is the protocol's. -/
theorem dev_eq {n : ℕ} {hn : n < nD} {x : Bool} {c : Dev nD} (h : n = (c.val + bif x then 15 else 1) % 16) : (⟨n, hn⟩ : Dev nD) = nxt x c :=
  Fin.ext h

/-- One hop's copies, set apart in the order in which they are started. -/
theorem owedFrom_hop (c : Dev nD) {n : ℕ} (hn : n < 15) :
    owedFrom c n = owedFrom c (n + 1) + owedCopy c n true true + owedCopy c n false true + owedCopy c n true false + owedCopy c n false false := by
  rw [owedFrom_succ c hn]; unfold owedHop; simp only [add_assoc]

/-! ## The handshakes -/

section Steps

variable {α : Type} (I : Inputs F) (K : GSem nD τ sig → ℕ) (c : Dev nD)

/-- To tell the device on side `x` that this one has begun. -/
def barRes (x : Bool) : sProp 𝕄 := iprop(dutyTok ER (barCell (prv x c)) 0 x ∗ reached ER (barCell (prv x c)) 0)

/-- Signalling a neighbour's barrier hands it the slots it may write here. -/
theorem wp_bar_signal (x : Bool) {O : CellTallies nD τ sig Unit} {d : Dev nD} (hd : d = prv x c) {sem : Sem sig} (hsem : (SemLoc.reg sem : SemLoc sig) = barS)
    {n : ℤ} (hn : n = ((1 : ℕ) : ℤ)) {k : PUnit → Prog (TpuEff nD τ sig (Elt F) Λ₀ .tc) α} {Q : α → sProp 𝕄} :
    iprop(AllInv I K ∗ barRes c x ∗ barPay (prv x c) x ∗ ∃ W, owes (c : Thread nD τ) (O + tallyAt (barCell (prv x c)) () 1) W)
      ⊢ iprop(((∃ W, owes (c : Thread nD τ) O W) -∗ WP c (k ⟨⟩) Q) -∗ WP c (.op (.semSignal (d, Proc.tc) sem n) k) Q) := by
  subst hd hn
  obtain rfl := SemLoc.reg.inj hsem
  unfold barRes
  iintro ⟨#HI, ⟨Ht, #Hr⟩, Hp, ⟨%W, HO⟩⟩ Hk
  ihave #Hi := (inv_bar I K (prv x c)) $$ HI
  iapply (Rounds.wp_signal 𝒱₀ ER (Rd I) (c : Thread nD τ) none (dst := (prv x c : Thread nD τ)) (sem := barrier0) (r := 0) (d := x) (κ := K (barCell (prv x c)))
      (by rw [duties_bar]; exact Finset.mem_univ _) (amount_bar I (prv x c) x) () O rfl) $$ [Ht Hp HO]
  · isplitr; · iexact Hi
    isplitl [HO]; · iexact HO
    isplitl [Ht]; · iexact Ht
    isplitl [Hp]; · rw [payload_bar]; iexact Hp
    iexact Hr
  iintro HO
  iapply Hk
  iexists _; iexact HO

/-- Waiting at the barrier gives the slots of both neighbours that this device may write. -/
theorem wp_bar_wait {O : CellTallies nD τ sig Unit} (hO : Above 1 O) {sem : Sem sig} (hsem : (SemLoc.reg sem : SemLoc sig) = barS)
    {n : ℤ} (hn : n = ((2 : ℕ) : ℤ)) {k : PUnit → Prog (TpuEff nD τ sig (Elt F) Λ₀ .tc) α} {Q : α → sProp 𝕄} :
    iprop(AllInv I K ∗ levAts L lv ∗ (cred (tallyAt (barCell c) () 2) ∗ atPos ER (barCell c) 0 ∅ 0) ∗ ∃ W, owes (c : Thread nD τ) O W)
      ⊢ iprop(((barPay c false ∗ barPay c true ∗ semVal (barCell c) 0 ∗ ∃ W, owes (c : Thread nD τ) O W) -∗ WP c (k ⟨⟩) Q)
        -∗ WP c (.op (.semWait sem n) k) Q) := by
  subst hn
  obtain rfl := SemLoc.reg.inj hsem
  iintro ⟨#HI, #Hlev, ⟨Hc, Hat⟩, ⟨%W, HO⟩⟩ Hk
  ihave #Hi := (inv_bar I K c) $$ HI
  iapply (Rounds.wp_wait_rest_token 𝒱₀ ER (Rd I) (c : Thread nD τ) none (κ := K (barCell c))
      (wpE_semWait_eq 𝒱₀ (c : Thread nD τ) none Set.univ) (Set.mem_univ _) () (O := O) (W := W) (R := 0) (m := 0) (T := ∅)
      ((Nat.zero_add _).trans (expect_bar I c).symm)) $$ [Hc HO Hat]
  · isplitr; · iexact Hi
    isplitl [Hc]; · iexact Hc
    isplitl [HO]; · iexact HO
    isplitr
    · iapply (mayWait_of c barS (lv_bar c).le hO); iexact Hlev
    iexact Hat
  iintro ⟨HO, Hat, -, Hpay⟩
  ihave Hs := (Entails.of_eq (rest_bar I c)) $$ Hpay
  icases Hs with ⟨Hf, Ht⟩
  imod (close I (g := barCell c) (κ := K (barCell c))) $$ [Hat] with H0
  · isplitr; · iexact Hi
    iexact Hat
  iapply Hk
  isplitl [Hf]; · iexact Hf
  isplitl [Ht]; · iexact Ht
  isplitl [H0]; · iexact H0
  iexists _; iexact HO

/-- To tell the device on side `x` that this one is done. -/
def finRes (x : Bool) : sProp 𝕄 := iprop(dutyTok ER (finCell (prv x c)) 0 x ∗ reached ER (finCell (prv x c)) 0)

/-- Signalling a neighbour's closing semaphore. -/
theorem wp_fin_signal (x : Bool) {O : CellTallies nD τ sig Unit} {d : Dev nD} (hd : d = prv x c) {sem : Sem sig} (hsem : (SemLoc.reg sem : SemLoc sig) = finS)
    {n : ℤ} (hn : n = ((1 : ℕ) : ℤ)) {k : PUnit → Prog (TpuEff nD τ sig (Elt F) Λ₀ .tc) α} {Q : α → sProp 𝕄} :
    iprop(AllInv I K ∗ finRes c x ∗ ∃ W, owes (c : Thread nD τ) (O + tallyAt (finCell (prv x c)) () 1) W)
      ⊢ iprop(((∃ W, owes (c : Thread nD τ) O W) -∗ WP c (k ⟨⟩) Q) -∗ WP c (.op (.semSignal (d, Proc.tc) sem n) k) Q) := by
  subst hd hn
  obtain rfl := SemLoc.reg.inj hsem
  unfold finRes
  iintro ⟨#HI, ⟨Ht, #Hr⟩, ⟨%W, HO⟩⟩ Hk
  ihave #Hi := (inv_fin I K (prv x c)) $$ HI
  iapply (Rounds.wp_signal 𝒱₀ ER (Rd I) (c : Thread nD τ) none (dst := (prv x c : Thread nD τ)) (sem := cc0_scoped0.sem) (r := 0) (d := x) (κ := K (finCell (prv x c)))
      (by rw [duties_fin]; exact Finset.mem_univ _) (amount_fin I (prv x c) x) () O rfl) $$ [Ht HO]
  · isplitr; · iexact Hi
    isplitl [HO]; · iexact HO
    isplitl [Ht]; · iexact Ht
    isplitr; · rw [payload_fin]; iempintro
    iexact Hr
  iintro HO
  iapply Hk
  iexists _; iexact HO

/-- Waiting for both neighbours at the end. -/
theorem wp_fin_wait {sem : Sem sig} (hsem : (SemLoc.reg sem : SemLoc sig) = finS)
    {n : ℤ} (hn : n = ((2 : ℕ) : ℤ)) {k : PUnit → Prog (TpuEff nD τ sig (Elt F) Λ₀ .tc) α} {Q : α → sProp 𝕄} :
    iprop(AllInv I K ∗ (cred (tallyAt (finCell c) () 2) ∗ atPos ER (finCell c) 0 ∅ 0) ∗ ∃ W, owes (c : Thread nD τ) 0 W)
      ⊢ iprop(((semVal (finCell c) 0 ∗ ∃ W, owes (c : Thread nD τ) 0 W) -∗ WP c (k ⟨⟩) Q)
        -∗ WP c (.op (.semWait sem n) k) Q) := by
  subst hn
  obtain rfl := SemLoc.reg.inj hsem
  iintro ⟨#HI, ⟨Hc, Hat⟩, ⟨%W, HO⟩⟩ Hk
  ihave #Hi := (inv_fin I K c) $$ HI
  iapply (Rounds.wp_wait_rest_token 𝒱₀ ER (Rd I) (c : Thread nD τ) none (κ := K (finCell c))
      (wpE_semWait_eq 𝒱₀ (c : Thread nD τ) none Set.univ) (Set.mem_univ _) () (O := 0) (W := W) (R := 0) (m := 0) (T := ∅)
      ((Nat.zero_add _).trans (expect_fin I c).symm)) $$ [Hc HO Hat]
  · isplitr; · iexact Hi
    isplitl [Hc]; · iexact Hc
    isplitl [HO]; · iexact HO
    isplitr; · rw [MayWait_zero]; iempintro
    iexact Hat
  iintro ⟨HO, Hat, -, -⟩
  imod (close I (g := finCell c) (κ := K (finCell c))) $$ [Hat] with H0
  · isplitr; · iexact Hi
    iexact Hat
  iapply Hk
  isplitl [H0]; · iexact H0
  iexists _; iexact HO

/-! ## A chain's sub-block on its way -/

/-- After `n` arrivals, slot `n` passed on: the slots so far (half of each lent out), what the later waits and
    copies take, and the arrival semaphores that are done. -/
def hops (x j : Bool) (n : ℕ) : sProp 𝕄 :=
  iprop((bigSep (Finset.range (n + 1)) fun s => slotAt I c x j s fullShare.left)
    ∗ (bigSep (Finset.Ico n 15) fun h => recvRes c x j h)
    ∗ (bigSep (Finset.Ico (n + 1) 15) fun h => sendRes c x j h)
    ∗ (bigSep (Finset.range (n + 1)) fun h => sentRes c x j h)
    ∗ (bigSep (Finset.range n) fun h => semVal (recvCell c x j h) 0))

/-- After the last arrival: every slot, the waits for the departures to come. -/
def done (x j : Bool) : sProp 𝕄 :=
  iprop(slotAt I c x j 15 fullShare
    ∗ (bigSep (Finset.range 15) fun s => slotAt I c x j s fullShare.left)
    ∗ (bigSep (Finset.range 15) fun h => sentRes c x j h)
    ∗ (bigSep (Finset.range 15) fun h => semVal (recvCell c x j h) 0))

/-- While the sends are drained: `k` of them are. -/
def drain (x j : Bool) (k : ℕ) : sProp 𝕄 :=
  iprop((bigSep (Finset.Ico k 15) fun h => sentRes c x j h)
    ∗ (bigSep (Finset.range k) fun s => slotAt I c x j s fullShare.right)
    ∗ (bigSep (Finset.range k) fun h => semVal (sendCell c x j h) 0))

/-- What is set apart of a lane until the end. -/
def kept (x j : Bool) : sProp 𝕄 :=
  iprop(slotAt I c x j 15 fullShare
    ∗ (bigSep (Finset.range 15) fun s => slotAt I c x j s fullShare.left)
    ∗ (bigSep (Finset.range 15) fun h => semVal (recvCell c x j h) 0))

/-- Of the slots passed on so far the newest can be read. -/
theorem hops_top (x j : Bool) (n : ℕ) :
    (hops I c x j n : sProp 𝕄) ⊢ iprop(slotAt I c x j n fullShare.left ∗ (slotAt I c x j n fullShare.left -∗ hops I c x j n)) := by
  unfold hops
  rw [bigSep_range_succ n (fun s => slotAt I c x j s fullShare.left)]
  iintro ⟨⟨Ht, Hs⟩, H⟩
  isplitl [Ht]; · iexact Ht
  iintro Ht
  isplitl [Ht Hs]
  · isplitl [Ht]; · iexact Ht
    iexact Hs
  iexact H

/-- Of all slots the last can be read. -/
theorem done_top (x j : Bool) :
    (done I c x j : sProp 𝕄) ⊢ iprop(slotAt I c x j 15 fullShare ∗ (slotAt I c x j 15 fullShare -∗ done I c x j)) := by
  unfold done
  iintro ⟨Ht, H⟩
  isplitl [Ht]; · iexact Ht
  iintro Ht
  isplitl [Ht]; · iexact Ht
  iexact H

/-- The slot last passed on, its keys and values named, to be read and put back. -/
theorem hops_read (x j : Bool) (n : ℕ) : (hops I c x j n : sProp 𝕄)
    ⊢ iprop(slotOwn c x j n fullShare.left (pack (asSlot (rows x j (I.k (src x n c)))) (asSlot (rows x j (I.v (src x n c)))))
      ∗ (slotOwn c x j n fullShare.left (pack (asSlot (rows x j (I.k (src x n c)))) (asSlot (rows x j (I.v (src x n c))))) -∗ hops I c x j n)) :=
  hops_top I c x j n

/-- The last slot, likewise. -/
theorem done_read (x j : Bool) : (done I c x j : sProp 𝕄)
    ⊢ iprop(slotOwn c x j 15 fullShare (pack (asSlot (rows x j (I.k (src x 15 c)))) (asSlot (rows x j (I.v (src x 15 c)))))
      ∗ (slotOwn c x j 15 fullShare (pack (asSlot (rows x j (I.k (src x 15 c)))) (asSlot (rows x j (I.v (src x 15 c))))) -∗ done I c x j)) :=
  done_top I c x j

/-- The end of a program. -/
theorem wp_end {a : α} {Q : α → sProp 𝕄} : Q a ⊢ WP c (.ret a) Q := by
  unfold WP
  rw [wp_ret]
  iintro H
  imodintro
  iexact H

/-- The first copy. -/
theorem wp_first (x j : Bool) {O : CellTallies nD τ sig Unit}
    {d : Dev nD} {ss rs : DmaSem sig} {srcM dstM : Memref sig .tc .vmem S2x4x64x256 .bf16}
    (hd : d = nxt x c) (hs : srcM = slotM x j 0) (ht : dstM = slotM x j (0 + 1))
    (hss : (SemLoc.dma ss : SemLoc sig) = sendS x j 0) (hrs : (SemLoc.dma rs : SemLoc sig) = recvS x j 0)
    {hsc : dstM.view.ref.isScScratch = false} {h₁ : srcM.view.WordExact} {h₂ : dstM.view.WordExact}
    {h₃ : DmaTarget.Typed (nD := nD) (τ := τ) (p := .tc) .vmem (.dma rs) (.remote (Dev.tc d) dstM (.dma ss) hsc)}
    {k : PUnit → Prog (TpuEff nD τ sig (Elt F) Λ₀ .tc) α} {Q : α → sProp 𝕄} :
    iprop(AllInv I K ∗ slotAt I c x j 0 fullShare ∗ (bigSep (Finset.range 15) fun h => sendRes c x j h) ∗ (bigSep (Finset.range 15) fun h => recvRes c x j h)
        ∗ ∃ W, owes (c : Thread nD τ) (O + owedCopy c 0 x j) W)
      ⊢ iprop(((hops I c x j 0 ∗ ∃ W, owes (c : Thread nD τ) O W) -∗ WP c (k ⟨⟩) Q)
        -∗ WP c (.op (.enqueueDma srcM (.remote (Dev.tc d) dstM (.dma ss) hsc) (.dma rs) h₁ h₂ h₃) k) Q) := by
  rw [Finset.range_eq_Ico, bigSep_Ico_succ_bot (by decide : 0 < 15) (fun h => sendRes c x j h)]
  iintro ⟨#HI, Hsl, ⟨Hs0, Hs⟩, Hv, HO⟩ Hk
  iapply (wp_enq I K c x j (by decide : 0 < 15) (O := O) hd hs ht hss hrs) $$ [Hsl Hs0 HO]
  · isplitr; · iexact HI
    isplitl [Hsl]; · iexact Hsl
    isplitl [Hs0]; · iexact Hs0
    iexact HO
  iintro ⟨Hsl, Hst, HO⟩
  iapply Hk
  isplitr [HO]
  · unfold hops
    rw [bigSep_range_succ, bigSep_range_succ, Finset.range_zero, bigSep_empty, bigSep_empty, bigSep_empty]
    isplitl [Hsl]; · isplitl [Hsl]; · iexact Hsl
                     iempintro
    isplitl [Hv]; · iexact Hv
    isplitl [Hs]; · iexact Hs
    isplitl [Hst]; · isplitl [Hst]; · iexact Hst
                     iempintro
    iempintro
  iexact HO

/-- A hop: wait for slot `n + 1`, pass it on. -/
theorem wp_hop (x j : Bool) {n : ℕ} (hn : n < 14) {O : CellTallies nD τ sig Unit} (hO : Above (2 + n) O)
    {sp sp' : Space} {s s' : Shape} {e e' : EltTy} {sem : DmaSem sig} {srcW : Memref sig .tc sp' s' e'} {dstW : Memref sig .tc sp s e}
    {d : Dev nD} {ss rs : DmaSem sig} {srcM dstM : Memref sig .tc .vmem S2x4x64x256 .bf16}
    (hsem : (SemLoc.dma sem : SemLoc sig) = recvS x j n) (hN : dstW.view.dmaCredit = N)
    (hd : d = nxt x c) (hs : srcM = slotM x j (n + 1)) (ht : dstM = slotM x j (n + 1 + 1))
    (hss : (SemLoc.dma ss : SemLoc sig) = sendS x j (n + 1)) (hrs : (SemLoc.dma rs : SemLoc sig) = recvS x j (n + 1))
    {hw₁ : srcW.view.WordExact} {hw₂ : dstW.view.WordExact}
    {hsc : dstM.view.ref.isScScratch = false} {h₁ : srcM.view.WordExact} {h₂ : dstM.view.WordExact}
    {h₃ : DmaTarget.Typed (nD := nD) (τ := τ) (p := .tc) .vmem (.dma rs) (.remote (Dev.tc d) dstM (.dma ss) hsc)}
    {k : PUnit → Prog (TpuEff nD τ sig (Elt F) Λ₀ .tc) α} {Q : α → sProp 𝕄} :
    iprop(AllInv I K ∗ levAts L lv ∗ hops I c x j n ∗ ∃ W, owes (c : Thread nD τ) (O + owedCopy c (n + 1) x j) W)
      ⊢ iprop(((hops I c x j (n + 1) ∗ ∃ W, owes (c : Thread nD τ) O W) -∗ WP c (k ⟨⟩) Q)
        -∗ WP c (.op (.waitDma2 sem srcW dstW hw₁ hw₂) fun _ =>
          .op (.enqueueDma srcM (.remote (Dev.tc d) dstM (.dma ss) hsc) (.dma rs) h₁ h₂ h₃) k) Q) := by
  unfold hops
  rw [bigSep_Ico_succ_bot (by omega : n < 15) (fun h => recvRes c x j h),
    bigSep_Ico_succ_bot (by omega : n + 1 < 15) (fun h => sendRes c x j h)]
  iintro ⟨#HI, #Hlev, ⟨Hsl, ⟨Hv0, Hv⟩, ⟨Hs0, Hs⟩, Hst, Hz⟩, HO⟩ Hk
  iapply (wp_recv I K c x j (by omega : n < 15) (O := O + owedCopy c (n + 1) x j)
      (hO.add (above_copy c x j (by omega) (by omega))) hsem hN) $$ [Hv0 HO]
  · isplitr; · iexact HI
    isplitr; · iexact Hlev
    isplitl [Hv0]; · iexact Hv0
    iexact HO
  iintro ⟨Hn, Hz0, HO⟩
  iapply (wp_enq I K c x j (by omega : n + 1 < 15) (O := O) hd hs ht hss hrs) $$ [Hn Hs0 HO]
  · isplitr; · iexact HI
    isplitl [Hn]; · iexact Hn
    isplitl [Hs0]; · iexact Hs0
    iexact HO
  iintro ⟨Hn, Hst0, HO⟩
  iapply Hk
  isplitr [HO]
  · rw [bigSep_range_succ (n + 1) (fun s => slotAt I c x j s fullShare.left), bigSep_range_succ (n + 1) (fun h => sentRes c x j h),
      bigSep_range_succ n (fun h => semVal (recvCell c x j h) 0)]
    isplitl [Hn Hsl]
    · isplitl [Hn]; · iexact Hn
      iexact Hsl
    isplitl [Hv]; · iexact Hv
    isplitl [Hs]; · iexact Hs
    isplitl [Hst0 Hst]
    · isplitl [Hst0]; · iexact Hst0
      iexact Hst
    isplitl [Hz0]; · iexact Hz0
    iexact Hz
  iexact HO

/-- The last wait for an arrival. -/
theorem wp_last (x j : Bool) {O : CellTallies nD τ sig Unit} (hO : Above 16 O)
    {sp sp' : Space} {s s' : Shape} {e e' : EltTy} {sem : DmaSem sig} {srcW : Memref sig .tc sp' s' e'} {dstW : Memref sig .tc sp s e}
    (hsem : (SemLoc.dma sem : SemLoc sig) = recvS x j 14) (hN : dstW.view.dmaCredit = N)
    {hw₁ : srcW.view.WordExact} {hw₂ : dstW.view.WordExact}
    {k : PUnit → Prog (TpuEff nD τ sig (Elt F) Λ₀ .tc) α} {Q : α → sProp 𝕄} :
    iprop(AllInv I K ∗ levAts L lv ∗ hops I c x j 14 ∗ ∃ W, owes (c : Thread nD τ) O W)
      ⊢ iprop(((done I c x j ∗ ∃ W, owes (c : Thread nD τ) O W) -∗ WP c (k ⟨⟩) Q)
        -∗ WP c (.op (.waitDma2 sem srcW dstW hw₁ hw₂) k) Q) := by
  unfold hops done
  rw [bigSep_Ico_one 14 (fun h => recvRes c x j h)]
  iintro ⟨#HI, #Hlev, ⟨Hsl, Hv0, -, Hst, Hz⟩, HO⟩ Hk
  iapply (wp_recv I K c x j (by omega : 14 < 15) (O := O) hO hsem hN) $$ [Hv0 HO]
  · isplitr; · iexact HI
    isplitr; · iexact Hlev
    isplitl [Hv0]; · iexact Hv0
    iexact HO
  iintro ⟨Hn, Hz0, HO⟩
  iapply Hk
  isplitr [HO]
  · isplitl [Hn]; · iexact Hn
    isplitl [Hsl]; · iexact Hsl
    isplitl [Hst]; · iexact Hst
    rw [bigSep_range_succ 14 (fun h => semVal (recvCell c x j h) 0)]
    isplitl [Hz0]; · iexact Hz0
    iexact Hz
  iexact HO

/-- After the last arrival the slots kept and the departures still to be waited for part. -/
theorem done_split (x j : Bool) : (done I c x j : sProp 𝕄) ⊢ iprop(kept I c x j ∗ drain I c x j 0) := by
  unfold done kept drain
  rw [Finset.range_zero, bigSep_empty, bigSep_empty, ← Finset.range_eq_Ico]
  iintro ⟨H15, Hsl, Hst, Hz⟩
  isplitr [Hst]
  · isplitl [H15]; · iexact H15
    isplitl [Hsl]; · iexact Hsl
    iexact Hz
  isplitl [Hst]; · iexact Hst
  isplitr <;> iempintro

/-- The wait for one departure. -/
theorem wp_drained (x j : Bool) {n : ℕ} (hn : n < 15) {O : CellTallies nD τ sig Unit} (hO : Above 18 O)
    {sp sp' : Space} {s s' : Shape} {e e' : EltTy} {sem : DmaSem sig} {srcW : Memref sig .tc sp' s' e'} {dstW : Memref sig .tc sp s e}
    (hsem : (SemLoc.dma sem : SemLoc sig) = sendS x j n) (hN : dstW.view.dmaCredit = N)
    {hw₁ : srcW.view.WordExact} {hw₂ : dstW.view.WordExact}
    {k : PUnit → Prog (TpuEff nD τ sig (Elt F) Λ₀ .tc) α} {Q : α → sProp 𝕄} :
    iprop(AllInv I K ∗ levAts L lv ∗ drain I c x j n ∗ ∃ W, owes (c : Thread nD τ) O W)
      ⊢ iprop(((drain I c x j (n + 1) ∗ ∃ W, owes (c : Thread nD τ) O W) -∗ WP c (k ⟨⟩) Q)
        -∗ WP c (.op (.waitDma2 sem srcW dstW hw₁ hw₂) k) Q) := by
  unfold drain
  rw [bigSep_Ico_succ_bot hn (fun h => sentRes c x j h), bigSep_range_succ n (fun s => slotAt I c x j s fullShare.right),
    bigSep_range_succ n (fun h => semVal (sendCell c x j h) 0)]
  iintro ⟨#HI, #Hlev, ⟨⟨Hs0, Hs⟩, Hr, Hz⟩, HO⟩ Hk
  iapply (wp_drain I K c x j hn (O := O) hO hsem hN) $$ [Hs0 HO]
  · isplitr; · iexact HI
    isplitr; · iexact Hlev
    isplitl [Hs0]; · iexact Hs0
    iexact HO
  iintro ⟨Hr0, Hz0, HO⟩
  iapply Hk
  isplitr [HO]
  · isplitl [Hs]; · iexact Hs
    isplitl [Hr0 Hr]
    · isplitl [Hr0]; · iexact Hr0
      iexact Hr
    isplitl [Hz0]; · iexact Hz0
    iexact Hz
  iexact HO

end Steps

end Cert.Ring

end
-- ==== Proof.Loop.lean ====
/-
The kernel's two loops: a trip of the first passes four slots on and attends to them, a trip of the second
waits for four departures.
-/
module

public import proofs.«01_k».proof.Proof.Hops
public import proofs.«01_k».proof.Proof.Gen.KernelIdeal.Skeleton

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A family over chains and sub-blocks, conjoined. -/
def all4 (A : Bool → Bool → sProp 𝕄) : sProp 𝕄 := iprop(A false false ∗ A false true ∗ A true false ∗ A true true)

section Loops

variable (I : Inputs F) (K : GSem nD τ sig → ℕ) (c : Dev nD)
  (mq : Memref sig .tc .vmem S16x64x256 .bf16) (hmq : mq.IsWhole) (mk : Memref sig .tc .vmem S16x64x256 .bf16) (hmk : mk.IsWhole)
  (mv : Memref sig .tc .vmem S16x64x256 .bf16) (hmv : mv.IsWhole) (mo : Memref sig .tc .vmem S16x64x256 .f32) (hmo : mo.IsWhole)

/-- Before trip `t` of the first loop. -/
def inv1 (t : ℕ) : sProp 𝕄 :=
  iprop(AllInv I K ∗ levAts L lv ∗ owns (c : Thread nD τ) mq fullShare (I.q c)
    ∗ all4 (fun x j => iprop(hops I c x j t ∗ lane c x j (blk I x j c t))) ∗ ∃ W, owes (c : Thread nD τ) (owedFrom c (t + 1)) W)

/-- Before trip `k` of the second loop. -/
def inv2 (k : ℕ) : sProp 𝕄 :=
  iprop(AllInv I K ∗ levAts L lv ∗ all4 (fun x j => drain I c x j k) ∗ ∃ W, owes (c : Thread nD τ) (owedFin c) W)

/-- A trip of the first loop. -/
theorem trip1 (d0 : Dev nD) (hd : d0 = c) (w₁ w₂ : BitVec 32) (y₁ : FVec F S4x256 .f32) (y₂ : FVec F S4x64x256 .f32) (t : Fin k0_t1_loop.trips) (acc : Unit) :
    inv1 I K c mq t.val ⊢ WP c (k0_t1_body mq hmq mk hmk mv hmv mo hmo (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 d0 w₁ w₂ y₁ y₂ t acc) (fun _ => inv1 I K c mq (t.val + 1)) := by
  subst hd
  have ht : t.val < 14 := t.isLt
  unfold inv1 all4
  rw [owedFrom_hop d0 (by omega : t.val + 1 < 15)]
  simp only [k0_t1_body, k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  simp only [Prog.lift, Prog.bind_op, Prog.bind_ret, Prog.pure_eq_ret]
  iintro ⟨#HI, #Hlev, Hq, ⟨⟨Hff, Lff⟩, ⟨Hft, Lft⟩, ⟨Htf, Ltf⟩, ⟨Htt, Ltt⟩⟩, HO⟩
  iapply (wp_hop I K d0 false false (n := t.val) (by omega) (O := owedFrom d0 (t.val + 1 + 1) + owedCopy d0 (t.val + 1) true true + owedCopy d0 (t.val + 1) false true + owedCopy d0 (t.val + 1) true false)
      ((((above_from d0 (by omega) (by omega)).add (above_copy d0 _ _ (by omega) (by omega))).add (above_copy d0 _ _ (by omega) (by omega))).add (above_copy d0 _ _ (by omega) (by omega)))
      (sem_eq true false false (h := t.val) (by omega) rfl (k0_off1_eq t)) (credit_eq false false (s := t.val + 1) (by omega) rfl (k0_off2_eq t))
      (dev_eq (k0_dev7_eq d0)) (slotM_eq false false (by omega) rfl (k0_off2_eq t)) (slotM_eq false false (by omega) rfl (k0_off5_eq t))
      (sem_eq false false false (by omega) rfl (k0_off4_eq t)) (sem_eq true false false (by omega) rfl (k0_off4_eq t))) $$ [Hff HO]
  · isplitr; · iexact HI
    isplitr; · iexact Hlev
    isplitl [Hff]; · iexact Hff
    iexact HO
  iintro ⟨Hff, HO⟩
  iapply (wp_hop I K d0 true false (n := t.val) (by omega) (O := owedFrom d0 (t.val + 1 + 1) + owedCopy d0 (t.val + 1) true true + owedCopy d0 (t.val + 1) false true)
      (((above_from d0 (by omega) (by omega)).add (above_copy d0 _ _ (by omega) (by omega))).add (above_copy d0 _ _ (by omega) (by omega)))
      (sem_eq true true false (h := t.val) (by omega) rfl (k0_off1_eq t)) (credit_eq true false (s := t.val + 1) (by omega) rfl (k0_off2_eq t))
      (dev_eq (k0_dev8_eq d0)) (slotM_eq true false (by omega) rfl (k0_off2_eq t)) (slotM_eq true false (by omega) rfl (k0_off5_eq t))
      (sem_eq false true false (by omega) rfl (k0_off4_eq t)) (sem_eq true true false (by omega) rfl (k0_off4_eq t))) $$ [Htf HO]
  · isplitr; · iexact HI
    isplitr; · iexact Hlev
    isplitl [Htf]; · iexact Htf
    iexact HO
  iintro ⟨Htf, HO⟩
  iapply (wp_hop I K d0 false true (n := t.val) (by omega) (O := owedFrom d0 (t.val + 1 + 1) + owedCopy d0 (t.val + 1) true true)
      ((above_from d0 (by omega) (by omega)).add (above_copy d0 _ _ (by omega) (by omega)))
      (sem_eq true false true (h := t.val) (by omega) rfl (k0_off6_eq t)) (credit_eq false true (s := t.val + 1) (by omega) rfl (k0_off7_eq t))
      (dev_eq (k0_dev9_eq d0)) (slotM_eq false true (by omega) rfl (k0_off7_eq t)) (slotM_eq false true (by omega) rfl (k0_off10_eq t))
      (sem_eq false false true (by omega) rfl (k0_off9_eq t)) (sem_eq true false true (by omega) rfl (k0_off9_eq t))) $$ [Hft HO]
  · isplitr; · iexact HI
    isplitr; · iexact Hlev
    isplitl [Hft]; · iexact Hft
    iexact HO
  iintro ⟨Hft, HO⟩
  iapply (wp_hop I K d0 true true (n := t.val) (by omega) (O := owedFrom d0 (t.val + 1 + 1))
      (above_from d0 (by omega) (by omega))
      (sem_eq true true true (h := t.val) (by omega) rfl (k0_off6_eq t)) (credit_eq true true (s := t.val + 1) (by omega) rfl (k0_off7_eq t))
      (dev_eq (k0_dev10_eq d0)) (slotM_eq true true (by omega) rfl (k0_off7_eq t)) (slotM_eq true true (by omega) rfl (k0_off10_eq t))
      (sem_eq false true true (by omega) rfl (k0_off9_eq t)) (sem_eq true true true (by omega) rfl (k0_off9_eq t))) $$ [Htt HO]
  · isplitr; · iexact HI
    isplitr; · iexact Hlev
    isplitl [Htt]; · iexact Htt
    iexact HO
  iintro ⟨Htt, HO⟩
  ihave Hp := (hops_read I d0 false false (t.val + 1)) $$ Hff
  icases Hp with ⟨Hs, Hback⟩
  iapply (wp_attn d0 false false (t.val + 1) (K := asSlot (rows false false (I.k (src false (t.val + 1) d0)))) (V := asSlot (rows false false (I.v (src false (t.val + 1) d0))))
      (mk := Memref.whole cc0_scratch0) rfl rfl (half_eq (by omega) false false (k0_off11_eq t)) (half_eq (by omega) false true (k0_off12_eq t)) rfl rfl) $$ [Hq Hs Lff]
  · isplitl [Hq]; · iexact Hq
    isplitl [Hs]; · iexact Hs
    iexact Lff
  iintro ⟨Hq, Hs, Lff⟩
  ihave Hff := Hback $$ Hs
  ihave Hp := (hops_read I d0 false true (t.val + 1)) $$ Hft
  icases Hp with ⟨Hs, Hback⟩
  iapply (wp_attn d0 false true (t.val + 1) (K := asSlot (rows false true (I.k (src false (t.val + 1) d0)))) (V := asSlot (rows false true (I.v (src false (t.val + 1) d0))))
      (mk := Memref.whole cc0_scratch0) rfl rfl (half_eq (by omega) true false (k0_off13_eq t)) (half_eq (by omega) true true (k0_off14_eq t)) rfl rfl) $$ [Hq Hs Lft]
  · isplitl [Hq]; · iexact Hq
    isplitl [Hs]; · iexact Hs
    iexact Lft
  iintro ⟨Hq, Hs, Lft⟩
  ihave Hft := Hback $$ Hs
  ihave Hp := (hops_read I d0 true false (t.val + 1)) $$ Htf
  icases Hp with ⟨Hs, Hback⟩
  iapply (wp_attn d0 true false (t.val + 1) (K := asSlot (rows true false (I.k (src true (t.val + 1) d0)))) (V := asSlot (rows true false (I.v (src true (t.val + 1) d0))))
      (mk := Memref.whole cc0_scratch1) rfl rfl (half_eq (by omega) false false (k0_off11_eq t)) (half_eq (by omega) false true (k0_off12_eq t)) rfl rfl) $$ [Hq Hs Ltf]
  · isplitl [Hq]; · iexact Hq
    isplitl [Hs]; · iexact Hs
    iexact Ltf
  iintro ⟨Hq, Hs, Ltf⟩
  ihave Htf := Hback $$ Hs
  ihave Hp := (hops_read I d0 true true (t.val + 1)) $$ Htt
  icases Hp with ⟨Hs, Hback⟩
  iapply (wp_attn d0 true true (t.val + 1) (K := asSlot (rows true true (I.k (src true (t.val + 1) d0)))) (V := asSlot (rows true true (I.v (src true (t.val + 1) d0))))
      (mk := Memref.whole cc0_scratch1) rfl rfl (half_eq (by omega) true false (k0_off13_eq t)) (half_eq (by omega) true true (k0_off14_eq t)) rfl rfl) $$ [Hq Hs Ltt]
  · isplitl [Hq]; · iexact Hq
    isplitl [Hs]; · iexact Hs
    iexact Ltt
  iintro ⟨Hq, Hs, Ltt⟩
  ihave Htt := Hback $$ Hs
  iapply wp_end
  isplitr; · iexact HI
  isplitr; · iexact Hlev
  isplitl [Hq]; · iexact Hq
  isplitr [HO]
  · isplitl [Hff Lff]
    · isplitl [Hff]; · iexact Hff
      iexact Lff
    isplitl [Hft Lft]
    · isplitl [Hft]; · iexact Hft
      iexact Lft
    isplitl [Htf Ltf]
    · isplitl [Htf]; · iexact Htf
      iexact Ltf
    isplitl [Htt]; · iexact Htt
    iexact Ltt
  iexact HO

/-- A trip of the second loop. -/
theorem trip2 (t : Fin k0_t2_loop.trips) (acc : Unit) :
    inv2 I K c t.val ⊢ WP c (k0_t2_body mq hmq mk hmk mv hmv mo hmo (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 t acc) (fun _ => inv2 I K c (t.val + 1)) := by
  have ht : t.val < 15 := t.isLt
  unfold inv2 all4
  simp only [k0_t2_body, k0_part9_eq_skeleton]
  unfold k0_part9_skel
  simp only [Prog.lift, Prog.bind_op, Prog.bind_ret, Prog.pure_eq_ret]
  iintro ⟨#HI, #Hlev, ⟨Hff, Hft, Htf, Htt⟩, HO⟩
  iapply (wp_drained I K c false false (n := t.val) ht (O := owedFin c) (above_fin c (by omega))
      (sem_eq false false false ht rfl (k0_off15_eq t)) (credit_eq false false (s := t.val) (by omega) rfl (k0_off16_eq t))) $$ [Hff HO]
  · isplitr; · iexact HI
    isplitr; · iexact Hlev
    isplitl [Hff]; · iexact Hff
    iexact HO
  iintro ⟨Hff, HO⟩
  iapply (wp_drained I K c false true (n := t.val) ht (O := owedFin c) (above_fin c (by omega))
      (sem_eq false false true ht rfl (k0_off18_eq t)) (credit_eq false true (s := t.val) (by omega) rfl (k0_off19_eq t))) $$ [Hft HO]
  · isplitr; · iexact HI
    isplitr; · iexact Hlev
    isplitl [Hft]; · iexact Hft
    iexact HO
  iintro ⟨Hft, HO⟩
  iapply (wp_drained I K c true false (n := t.val) ht (O := owedFin c) (above_fin c (by omega))
      (sem_eq false true false ht rfl (k0_off15_eq t)) (credit_eq true false (s := t.val) (by omega) rfl (k0_off16_eq t))) $$ [Htf HO]
  · isplitr; · iexact HI
    isplitr; · iexact Hlev
    isplitl [Htf]; · iexact Htf
    iexact HO
  iintro ⟨Htf, HO⟩
  iapply (wp_drained I K c true true (n := t.val) ht (O := owedFin c) (above_fin c (by omega))
      (sem_eq false true true ht rfl (k0_off18_eq t)) (credit_eq true true (s := t.val) (by omega) rfl (k0_off19_eq t))) $$ [Htt HO]
  · isplitr; · iexact HI
    isplitr; · iexact Hlev
    isplitl [Htt]; · iexact Htt
    iexact HO
  iintro ⟨Htt, HO⟩
  iapply wp_end
  isplitr; · iexact HI
  isplitr; · iexact Hlev
  isplitr [HO]
  · isplitl [Hff]; · iexact Hff
    isplitl [Hft]; · iexact Hft
    isplitl [Htf]; · iexact Htf
    iexact Htt
  iexact HO

end Loops

end Cert.Ring

end
-- ==== Proof.Bufs.lean ====
/-
The kernel's buffers cut into the pieces its copies and its attention take, and put together again.
-/
module

public import proofs.«01_k».proof.Proof.Loop
public import Idealize.ShloMosaic.Lib.Ring

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The running state's buffers, by four heads -/

/-- The place of a row of the whole among its four heads. -/
def rowIdx3 (i : S16x64x256.Idx) : S4x64x256.Idx
  | ⟨0, _⟩ => (⟨(i 0).val % 4, Nat.mod_lt _ (by decide)⟩ : Fin 4) | ⟨1, _⟩ => (i 1 : Fin 64) | ⟨2, _⟩ => (i 2 : Fin 256)
/-- A row and column among sixteen heads as one among the four of its block. -/
def rowIdx2 (i : S16x256.Idx) : S4x256.Idx
  | ⟨0, _⟩ => (⟨(i 0).val % 4, Nat.mod_lt _ (by decide)⟩ : Fin 4) | ⟨1, _⟩ => (i 1 : Fin 256)

/-- Sixteen heads made of four times four. -/
def join3 {α : Type} (A : Bool → Bool → S4x64x256.Idx → α) : S16x64x256.Idx → α := fun i =>
  A (decide (8 ≤ (i 0).val)) (decide (4 ≤ (i 0).val % 8)) (rowIdx3 i)
/-- The same of one number per head and query. -/
def join2 {α : Type} (A : Bool → Bool → S4x256.Idx → α) : S16x256.Idx → α := fun i =>
  A (decide (8 ≤ (i 0).val)) (decide (4 ≤ (i 0).val % 8)) (rowIdx2 i)

/-- The chain and the sub-block of a head are read off its number. -/
theorem row_bool (x j : Bool) (n : ℕ) (hn : n < 4) :
    decide (8 ≤ 8 * x.toNat + 4 * j.toNat + 1 * n) = x ∧ decide (4 ≤ (8 * x.toNat + 4 * j.toNat + 1 * n) % 8) = j ∧ (8 * x.toNat + 4 * j.toNat + 1 * n) % 4 = n := by
  revert n x j; decide

/-- Sixteen heads made of four times four, read at one block's rows, are that block. -/
theorem join3_emb {α : Type} (A : Bool → Bool → S4x64x256.Idx → α) (x j : Bool) (i : S4x64x256.Idx) : join3 A ((rowR x j).emb i) = A x j i := by
  obtain ⟨h1, h2, h3⟩ := row_bool x j (i 0).val (i 0).isLt
  unfold join3
  have e0 : ((rowR x j).emb i 0).val = 8 * x.toNat + 4 * j.toNat + 1 * (i 0).val := rfl
  rw [e0, h1, h2]
  congr 1
  funext a
  apply Fin.ext
  fin_cases a
  · exact h3
  · show 0 + 1 * (i 1).val = (i 1).val; omega
  · show 0 + 1 * (i 2).val = (i 2).val; omega

/-- The same of one number per head and query. -/
theorem join2_emb {α : Type} (A : Bool → Bool → S4x256.Idx → α) (x j : Bool) (i : S4x256.Idx) : join2 A ((rowR2 x j).emb i) = A x j i := by
  obtain ⟨h1, h2, h3⟩ := row_bool x j (i 0).val (i 0).isLt
  unfold join2
  have e0 : ((rowR2 x j).emb i 0).val = 8 * x.toNat + 4 * j.toNat + 1 * (i 0).val := rfl
  rw [e0, h1, h2]
  congr 1
  funext a
  apply Fin.ext
  fin_cases a
  · exact h3
  · show 0 + 1 * (i 1).val = (i 1).val; omega

/-- A head's number lies in the rows of one chain and sub-block only. -/
theorem bool_split (x j x' j' : Bool) (n : ℕ) (h : 8 * x.toNat + 4 * j.toNat ≤ n) (h' : n < 8 * x.toNat + 4 * j.toNat + 4)
    (k : 8 * x'.toNat + 4 * j'.toNat ≤ n) (k' : n < 8 * x'.toNat + 4 * j'.toNat + 4) : (x, j) = (x', j') := by
  cases x <;> cases j <;> cases x' <;> cases j' <;> simp at * <;> omega

/-- A head's number lies in the rows of its chain and sub-block. -/
theorem row_mem (n : ℕ) (hn : n < 16) : 8 * (decide (8 ≤ n)).toNat + 4 * (decide (4 ≤ n % 8)).toNat ≤ n
    ∧ n < 8 * (decide (8 ≤ n)).toNat + 4 * (decide (4 ≤ n % 8)).toNat + 4 := by revert n; decide

/-- The blocks of four heads don't overlap. -/
theorem rows3_disj (t t' : Bool × Bool) (h : t ≠ t') : Disjoint (rowR t.1 t.2).set (rowR t'.1 t'.2).set := by
  rw [Finset.disjoint_left]
  intro i hi hi'
  have a := Rect.mem_set_unit.mp hi 0
  have b := Rect.mem_set_unit.mp hi' 0
  exact h (bool_split _ _ _ _ (i 0).val a.1 a.2 b.1 b.2)

/-- The blocks of four heads are all sixteen. -/
theorem rows3_cov : (Finset.univ : Finset (Bool × Bool)).biUnion (fun t => (rowR t.1 t.2).set) = Finset.univ := by
  refine Finset.eq_univ_iff_forall.mpr fun i => Finset.mem_biUnion.mpr ⟨(decide (8 ≤ (i 0).val), decide (4 ≤ (i 0).val % 8)), Finset.mem_univ _, ?_⟩
  refine Rect.mem_set_unit.mpr fun a => ?_
  fin_cases a
  · exact row_mem (i 0).val (i 0).isLt
  · exact ⟨Nat.zero_le _, by show (i 1).val < 0 + 64; have := (i 1).isLt; rw [Nat.zero_add]; exact this⟩
  · exact ⟨Nat.zero_le _, by show (i 2).val < 0 + 256; have := (i 2).isLt; rw [Nat.zero_add]; exact this⟩

/-- The same of one number per head and query: no overlap. -/
theorem rows2_disj (t t' : Bool × Bool) (h : t ≠ t') : Disjoint (rowR2 t.1 t.2).set (rowR2 t'.1 t'.2).set := by
  rw [Finset.disjoint_left]
  intro i hi hi'
  have a := Rect.mem_set_unit.mp hi 0
  have b := Rect.mem_set_unit.mp hi' 0
  exact h (bool_split _ _ _ _ (i 0).val a.1 a.2 b.1 b.2)

/-- The same of one number per head and query: all sixteen. -/
theorem rows2_cov : (Finset.univ : Finset (Bool × Bool)).biUnion (fun t => (rowR2 t.1 t.2).set) = Finset.univ := by
  refine Finset.eq_univ_iff_forall.mpr fun i => Finset.mem_biUnion.mpr ⟨(decide (8 ≤ (i 0).val), decide (4 ≤ (i 0).val % 8)), Finset.mem_univ _, ?_⟩
  refine Rect.mem_set_unit.mpr fun a => ?_
  fin_cases a
  · exact row_mem (i 0).val (i 0).isLt
  · exact ⟨Nat.zero_le _, by show (i 1).val < 0 + 256; have := (i 1).isLt; rw [Nat.zero_add]; exact this⟩

/-- A family over chain and sub-block is its four members. -/
theorem bigSep_pairs (Φ : Bool × Bool → sProp 𝕄) :
    bigSep Finset.univ Φ = iprop(Φ (false, false) ∗ Φ (false, true) ∗ Φ (true, false) ∗ Φ (true, true)) :=
  bigSep_univ_eq_bigSepL [(false, false), (false, true), (true, false), (true, true)] (by decide) (by decide) Φ

/-- Pieces of a memref held at the parts of `X` are the memref held at `X`. -/
theorem owns_of_family {T : Type} [Fintype T] [DecidableEq T] [∀ e, Nonempty (Elt F e)] (c : Dev nD) {cs : CoreSpace} {sh : Shape} {e : EltTy} (m : Memref sig .tc cs sh e)
    (r : T → Rect sh) (hr : ∀ t a, (r t).stride a = 1) (hd : ∀ t t', t ≠ t' → Disjoint (r t).set (r t').set)
    (hcov : (Finset.univ : Finset T).biUnion (fun t => (r t).set) = Finset.univ) (X : sh.Idx → Elt F e) (A : ∀ t, (r t).shape.Idx → Elt F e)
    (hA : ∀ t i, X ((r t).emb i) = A t i) :
    bigSep Finset.univ (fun t => owns (c : Thread nD τ) (m.slice (r t) (hr t)) fullShare (A t)) ⊢ (owns (c : Thread nD τ) m fullShare X : sProp 𝕄) := by
  obtain rfl : (fun t i => X ((r t).emb i)) = A := funext fun t => funext fun i => hA t i
  exact owns_of_rects (c : Thread nD τ) m fullShare r hr hd hcov X

section State

variable (c : Dev nD)

/-- The three buffers of the running state are the four lanes. -/
theorem lanes_split (M Lv : Vec F S16x256 .f32) (O : Vec F S16x64x256 .f32) :
    iprop(owns (c : Thread nD τ) (Memref.whole cc0_scratch3) fullShare M ∗ owns (c : Thread nD τ) (Memref.whole cc0_scratch4) fullShare Lv
        ∗ owns (c : Thread nD τ) (Memref.whole cc0_scratch2) fullShare O)
      ⊢ (all4 (fun x j => iprop(∃ B, lane c x j B)) : sProp 𝕄) := by
  have hM := owns_rects (Ix := Unit) (Name := ℕ) (U := UU) (Lvl := ℕ) (T := Bool × Bool) (c : Thread nD τ) (Memref.whole cc0_scratch3) fullShare (fun t => rowR2 t.1 t.2) (fun _ _ => rfl) rows2_disj rows2_cov M
  have hL := owns_rects (Ix := Unit) (Name := ℕ) (U := UU) (Lvl := ℕ) (T := Bool × Bool) (c : Thread nD τ) (Memref.whole cc0_scratch4) fullShare (fun t => rowR2 t.1 t.2) (fun _ _ => rfl) rows2_disj rows2_cov Lv
  have hO := owns_rects (Ix := Unit) (Name := ℕ) (U := UU) (Lvl := ℕ) (T := Bool × Bool) (c : Thread nD τ) (Memref.whole cc0_scratch2) fullShare (fun t => rowR t.1 t.2) (fun _ _ => rfl) rows3_disj rows3_cov O
  rw [bigSep_pairs] at hM hL hO
  unfold all4
  iintro ⟨HM, HL, HO⟩
  ihave HM := hM $$ HM
  ihave HL := hL $$ HL
  ihave HO := hO $$ HO
  icases HM with ⟨M0, M1, M2, M3⟩
  icases HL with ⟨L0, L1, L2, L3⟩
  icases HO with ⟨O0, O1, O2, O3⟩
  isplitl [M0 L0 O0]
  · iexists ⟨fun i => M ((rowR2 false false).emb i), fun i => Lv ((rowR2 false false).emb i), fun i => O ((rowR false false).emb i)⟩
    unfold lane
    isplitl [M0]; · iexact M0
    isplitl [L0]; · iexact L0
    iexact O0
  isplitl [M1 L1 O1]
  · iexists ⟨fun i => M ((rowR2 false true).emb i), fun i => Lv ((rowR2 false true).emb i), fun i => O ((rowR false true).emb i)⟩
    unfold lane
    isplitl [M1]; · iexact M1
    isplitl [L1]; · iexact L1
    iexact O1
  isplitl [M2 L2 O2]
  · iexists ⟨fun i => M ((rowR2 true false).emb i), fun i => Lv ((rowR2 true false).emb i), fun i => O ((rowR true false).emb i)⟩
    unfold lane
    isplitl [M2]; · iexact M2
    isplitl [L2]; · iexact L2
    iexact O2
  iexists ⟨fun i => M ((rowR2 true true).emb i), fun i => Lv ((rowR2 true true).emb i), fun i => O ((rowR true true).emb i)⟩
  unfold lane
  isplitl [M3]; · iexact M3
  isplitl [L3]; · iexact L3
  iexact O3

/-- The four lanes are the three buffers, row by row. -/
theorem lanes_join [∀ e, Nonempty (Elt F e)] (B : Bool → Bool → Blk F) :
    (all4 (fun x j => lane c x j (B x j)) : sProp 𝕄)
      ⊢ iprop(owns (c : Thread nD τ) (Memref.whole cc0_scratch3) fullShare (join2 fun x j => (B x j).m)
        ∗ owns (c : Thread nD τ) (Memref.whole cc0_scratch4) fullShare (join2 fun x j => (B x j).l)
        ∗ owns (c : Thread nD τ) (Memref.whole cc0_scratch2) fullShare (join3 fun x j => (B x j).o)) := by
  have hM := owns_of_family (F := F) (T := Bool × Bool) c (Memref.whole cc0_scratch3) (fun t => rowR2 t.1 t.2) (fun _ _ => rfl) rows2_disj rows2_cov
    (join2 fun x j => (B x j).m) (fun t => (B t.1 t.2).m) (fun t i => join2_emb _ t.1 t.2 i)
  have hL := owns_of_family (F := F) (T := Bool × Bool) c (Memref.whole cc0_scratch4) (fun t => rowR2 t.1 t.2) (fun _ _ => rfl) rows2_disj rows2_cov
    (join2 fun x j => (B x j).l) (fun t => (B t.1 t.2).l) (fun t i => join2_emb _ t.1 t.2 i)
  have hO := owns_of_family (F := F) (T := Bool × Bool) c (Memref.whole cc0_scratch2) (fun t => rowR t.1 t.2) (fun _ _ => rfl) rows3_disj rows3_cov
    (join3 fun x j => (B x j).o) (fun t => (B t.1 t.2).o) (fun t i => join3_emb _ t.1 t.2 i)
  rw [bigSep_pairs] at hM hL hO
  unfold all4 lane
  iintro ⟨⟨M0, L0, O0⟩, ⟨M1, L1, O1⟩, ⟨M2, L2, O2⟩, ⟨M3, L3, O3⟩⟩
  isplitl [M0 M1 M2 M3]
  · iapply hM
    isplitl [M0]; · iexact M0
    isplitl [M1]; · iexact M1
    isplitl [M2]; · iexact M2
    iexact M3
  isplitl [L0 L1 L2 L3]
  · iapply hL
    isplitl [L0]; · iexact L0
    isplitl [L1]; · iexact L1
    isplitl [L2]; · iexact L2
    iexact L3
  iapply hO
  isplitl [O0]; · iexact O0
  isplitl [O1]; · iexact O1
  isplitl [O2]; · iexact O2
  iexact O3

end State

/-! ## A chain's buffer, by slots -/

/-- Two slots of a buffer don't overlap. -/
theorem slots_disj (t t' : Fin 16 × Bool) (h : t ≠ t') : Disjoint (slotR t.1.val t.2).set (slotR t'.1.val t'.2).set := by
  rw [Finset.disjoint_left]
  intro i hi hi'
  refine h (Prod.ext (Fin.ext ?_) ?_)
  · have a := Rect.mem_set_unit.mp hi 0
    have b := Rect.mem_set_unit.mp hi' 0
    have a1 : t.1.val % 16 ≤ (i 0).val := a.1
    have a2 : (i 0).val < t.1.val % 16 + 1 := a.2
    have b1 : t'.1.val % 16 ≤ (i 0).val := b.1
    have b2 : (i 0).val < t'.1.val % 16 + 1 := b.2
    have := t.1.isLt; have := t'.1.isLt
    omega
  · have a := Rect.mem_set_unit.mp hi 1
    have b := Rect.mem_set_unit.mp hi' 1
    have a1 : t.2.toNat ≤ (i 1).val := a.1
    have a2 : (i 1).val < t.2.toNat + 1 := a.2
    have b1 : t'.2.toNat ≤ (i 1).val := b.1
    have b2 : (i 1).val < t'.2.toNat + 1 := b.2
    have : t.2.toNat = t'.2.toNat := by omega
    revert this; cases t.2 <;> cases t'.2 <;> decide

/-- The slots are the whole buffer. -/
theorem slots_cov : (Finset.univ : Finset (Fin 16 × Bool)).biUnion (fun t => (slotR t.1.val t.2).set) = Finset.univ := by
  refine Finset.eq_univ_iff_forall.mpr fun i => Finset.mem_biUnion.mpr ⟨(⟨(i 0).val, (i 0).isLt⟩, decide ((i 1).val = 1)), Finset.mem_univ _, ?_⟩
  refine Rect.mem_set_unit.mpr fun a => ?_
  have h0 : (i 0).val < 16 := (i 0).isLt
  have h1 : (i 1).val < 2 := (i 1).isLt
  have hz : ∀ {p n : ℕ}, p < n → 0 ≤ p ∧ p < 0 + n := fun h => ⟨Nat.zero_le _, by omega⟩
  fin_cases a
  · show (i 0).val % 16 ≤ (i 0).val ∧ (i 0).val < (i 0).val % 16 + 1
    omega
  · show (decide ((i 1).val = 1)).toNat ≤ (i 1).val ∧ (i 1).val < (decide ((i 1).val = 1)).toNat + 1
    rcases (show (i 1).val = 0 ∨ (i 1).val = 1 by omega) with h | h <;> rw [h] <;> decide
  · exact hz (i 2).isLt
  · exact hz (i 3).isLt
  · exact hz (i 4).isLt
  · exact hz (i 5).isLt

section Slots

variable (c : Dev nD)

/-- A family over the sixteen slots, by their numbers. -/
theorem bigSep_fin_range (Φ : ℕ → sProp 𝕄) :
    bigSep (Finset.univ : Finset (Fin 16)) (fun s => Φ s.val) = bigSep (Finset.range 16) Φ := by
  exact Ring.bigSep_fin_eq_range 16 _ Φ fun _ _ => rfl

/-- A family over slots and sub-blocks, as two families over slots. -/
theorem slots_pairs (Φ : ℕ → Bool → sProp 𝕄) :
    bigSep (Finset.univ : Finset (Fin 16 × Bool)) (fun t => Φ t.1.val t.2)
      = iprop((bigSep (Finset.range 16) fun s => Φ s false) ∗ (bigSep (Finset.range 16) fun s => Φ s true)) := by
  rw [bigSep_univ_prod (fun t : Fin 16 × Bool => Φ t.1.val t.2)]
  simp only [bigSep_bool]
  rw [bigSep_sep', bigSep_fin_range (fun s => Φ s false), bigSep_fin_range (fun s => Φ s true)]

/-- A buffer's ownership gives that of its slots, each at some contents. -/
theorem kv_split (x : Bool) (X : Vec F S16x2x2x4x64x256 .bf16) :
    (owns (c : Thread nD τ) (kvM x) fullShare X : sProp 𝕄)
      ⊢ iprop((bigSep (Finset.range 16) fun s => iprop(∃ Y, slotOwn c x false s fullShare Y))
        ∗ (bigSep (Finset.range 16) fun s => iprop(∃ Y, slotOwn c x true s fullShare Y))) := by
  have h := owns_rects (Ix := Unit) (Name := ℕ) (U := UU) (Lvl := ℕ) (T := Fin 16 × Bool) (c : Thread nD τ) (kvM x) fullShare (fun t => slotR t.1.val t.2) (fun _ _ => rfl) slots_disj slots_cov X
  have h2 : ∀ t : Fin 16 × Bool, (owns (c : Thread nD τ) ((kvM x).slice (slotR t.1.val t.2) (fun _ => rfl)) fullShare (fun i => X ((slotR t.1.val t.2).emb i)) : sProp 𝕄)
      ⊢ iprop(∃ Y, slotOwn c x t.2 t.1.val fullShare Y) := fun t => by
    iintro H
    iexists _
    iexact H
  exact (h.trans (bigSep_mono fun t _ => h2 t)).trans (Entails.of_eq (slots_pairs fun s j => iprop(∃ Y, slotOwn c x j s fullShare Y)))

/-- A slot's contents taken from a family, as contents of the buffer. -/
def joinKV (Y : ℕ → Bool → Vec F S1x1x2x4x64x256 .bf16) : Vec F S16x2x2x4x64x256 .bf16 := fun i =>
  Y (i 0).val (decide ((i 1).val = 1)) fun
    | ⟨0, _⟩ => (0 : Fin 1) | ⟨1, _⟩ => (0 : Fin 1) | ⟨2, _⟩ => (i 2 : Fin 2)
    | ⟨3, _⟩ => (i 3 : Fin 4) | ⟨4, _⟩ => (i 4 : Fin 64) | ⟨5, _⟩ => (i 5 : Fin 256)

/-- A buffer made of slots, read at one slot, is that slot. -/
theorem joinKV_emb (Y : ℕ → Bool → Vec F S1x1x2x4x64x256 .bf16) (s : Fin 16) (j : Bool) (i : S1x1x2x4x64x256.Idx) :
    joinKV Y ((slotR s.val j).emb i) = Y s.val j i := by
  have z0 : (i 0).val = 0 := by have : (i 0).val < 1 := (i 0).isLt; omega
  have z1 : (i 1).val = 0 := by have : (i 1).val < 1 := (i 1).isLt; omega
  have e0 : ((slotR s.val j).emb i 0).val = s.val := by
    show s.val % 16 + 1 * (i 0).val = s.val
    have := s.isLt; omega
  have e1 : decide (((slotR s.val j).emb i 1).val = 1) = j := by
    show decide (j.toNat + 1 * (i 1).val = 1) = j
    rw [z1]; cases j <;> rfl
  unfold joinKV
  rw [e0, e1]
  congr 1
  funext a
  apply Fin.ext
  fin_cases a
  · exact z0.symm
  · exact z1.symm
  · show 0 + 1 * (i 2).val = (i 2).val; omega
  · show 0 + 1 * (i 3).val = (i 3).val; omega
  · show 0 + 1 * (i 4).val = (i 4).val; omega
  · show 0 + 1 * (i 5).val = (i 5).val; omega

/-- The slots at their contents make the buffer at the contents joined of them. -/
theorem kv_join [∀ e, Nonempty (Elt F e)] (x : Bool) (Y : ℕ → Bool → Vec F S1x1x2x4x64x256 .bf16) :
    iprop((bigSep (Finset.range 16) fun s => slotOwn c x false s fullShare (Y s false))
        ∗ (bigSep (Finset.range 16) fun s => slotOwn c x true s fullShare (Y s true)))
      ⊢ (owns (c : Thread nD τ) (kvM x) fullShare (joinKV Y) : sProp 𝕄) := by
  have h := owns_of_family (F := F) (T := Fin 16 × Bool) c (kvM x) (fun t => slotR t.1.val t.2) (fun _ _ => rfl) slots_disj slots_cov (joinKV Y)
    (fun t => Y t.1.val t.2) (fun t i => joinKV_emb Y t.1 t.2 i)
  exact (Entails.of_eq (slots_pairs fun s j => slotOwn c x j s fullShare (Y s j)).symm).trans h

variable (I : Inputs F)

/-- A lane's slots at the end, each whole again. -/
theorem lane_slots (x j : Bool) :
    iprop(kept I c x j ∗ drain I c x j 15)
      ⊢ (iprop((bigSep (Finset.range 16) fun s => slotAt I c x j s fullShare)
        ∗ (bigSep (Finset.range 15) fun h => semVal (recvCell c x j h) 0) ∗ (bigSep (Finset.range 15) fun h => semVal (sendCell c x j h) 0)) : sProp 𝕄) := by
  unfold kept drain
  rw [bigSep_range_succ 15 (fun s => slotAt I c x j s fullShare)]
  have hj : (bigSep (Finset.range 15) fun s => iprop(slotAt I c x j s fullShare.left ∗ slotAt I c x j s fullShare.right) : sProp 𝕄)
      ⊢ bigSep (Finset.range 15) fun s => slotAt I c x j s fullShare :=
    bigSep_mono fun s _ => owns_unhalve c (slotL x j s) (slotV I x j s c)
  iintro ⟨⟨H15, Hl, Hr⟩, -, Hh, Hs⟩
  isplitl [H15 Hl Hh]
  · isplitl [H15]; · iexact H15
    iapply hj
    rw [bigSep_sep']
    isplitl [Hl]; · iexact Hl
    iexact Hh
  isplitl [Hr]; · iexact Hr
  iexact Hs

end Slots

end Cert.Ring

end
-- ==== Proof.Run.lean ====
/-
One device's kernel from its barrier to its last handshake.
-/
module

public import proofs.«01_k».proof.Proof.Bufs

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The part of a send's resources a device starts with. -/
def sendPre (c : Dev nD) (x j : Bool) (h : ℕ) : sProp 𝕄 :=
  iprop(dutyTok ER (sendCell c x j h) 0 false ∗ reached ER (sendCell c x j h) 0 ∗ atPos ER (sendCell c x j h) 0 ∅ 0
    ∗ dutyTok ER (recvCell (nxt x c) x j h) 0 false)

/-- What one lane starts with. -/
def lanePre (c : Dev nD) (x j : Bool) : sProp 𝕄 :=
  iprop((∃ X, slotOwn c x j 0 fullShare X) ∗ (bigSep (Finset.range 15) fun h => sendPre c x j h) ∗ (bigSep (Finset.range 15) fun h => recvRes c x j h)
    ∗ ∃ B, lane c x j B)

/-- What a neighbour hands over completes the sends. -/
theorem arm (c : Dev nD) (x : Bool) :
    iprop((bigSep (Finset.range 15) fun h => sendPre c x false h) ∗ (bigSep (Finset.range 15) fun h => sendPre c x true h) ∗ barPay c x)
      ⊢ (iprop((bigSep (Finset.range 15) fun h => sendRes c x false h) ∗ (bigSep (Finset.range 15) fun h => sendRes c x true h)
        ∗ reached ER (finCell (nxt x c)) 0) : sProp 𝕄) := by
  have h1 : ∀ h, iprop(sendPre c x false h ∗ sendPre c x true h ∗ both fun j =>
        iprop((∃ X, slotOwn (nxt x c) x j (h + 1) fullShare X) ∗ reached ER (recvCell (nxt x c) x j h) 0))
      ⊢ (iprop(sendRes c x false h ∗ sendRes c x true h) : sProp 𝕄) := fun h => by
    unfold sendPre sendRes both
    iintro ⟨⟨A1, A2, A3, A4⟩, ⟨B1, B2, B3, B4⟩, ⟨⟨C1, C2⟩, ⟨D1, D2⟩⟩⟩
    isplitl [A1 A2 A3 A4 C1 C2]
    · isplitl [A1]; · iexact A1
      isplitl [A2]; · iexact A2
      isplitl [A3]; · iexact A3
      isplitl [A4]; · iexact A4
      isplitl [C2]; · iexact C2
      iexact C1
    isplitl [B1]; · iexact B1
    isplitl [B2]; · iexact B2
    isplitl [B3]; · iexact B3
    isplitl [B4]; · iexact B4
    isplitl [D2]; · iexact D2
    iexact D1
  have h2 : (bigSep (Finset.range 15) (fun h => iprop(sendPre c x false h ∗ sendPre c x true h ∗ both fun j =>
        iprop((∃ X, slotOwn (nxt x c) x j (h + 1) fullShare X) ∗ reached ER (recvCell (nxt x c) x j h) 0))) : sProp 𝕄)
      ⊢ bigSep (Finset.range 15) fun h => iprop(sendRes c x false h ∗ sendRes c x true h) := bigSep_mono fun h _ => h1 h
  simp only [bigSep_sep' _ (fun h => sendPre c x false h), bigSep_sep' _ (fun h => sendPre c x true h), bigSep_sep' _ (fun h => sendRes c x false h)] at h2
  unfold barPay
  iintro ⟨HA, HB, ⟨HC, HD⟩⟩
  ihave H := h2 $$ [HA HB HC]
  · isplitl [HA]; · iexact HA
    isplitl [HB]; · iexact HB
    iexact HC
  icases H with ⟨H1, H2⟩
  isplitl [H1]; · iexact H1
  isplitl [H2]; · iexact H2
  iexact HD

/-- The result of the kernel on device `c`. -/
def outV (I : Inputs F) (c : Dev nD) : Vec F S16x64x256 .f32 :=
  k0_pay110 (join3 fun x j => (blk I x j c 15).o) (join2 fun x j => (blk I x j c 15).l)

section Run

variable (I : Inputs F) (K : GSem nD τ sig → ℕ) (c : Dev nD)
  (mq : Memref sig .tc .vmem S16x64x256 .bf16) (hmq : mq.IsWhole) (mk : Memref sig .tc .vmem S16x64x256 .bf16) (hmk : mk.IsWhole)
  (mv : Memref sig .tc .vmem S16x64x256 .bf16) (hmv : mv.IsWhole) (mo : Memref sig .tc .vmem S16x64x256 .f32) (hmo : mo.IsWhole)

/-- What a device's kernel starts with, but for the semaphores' invariants and its blocks. -/
def runPre : sProp 𝕄 :=
  iprop(all4 (fun x j => lanePre c x j) ∗ both (fun x => barRes c x) ∗ both (fun x => barPay (prv x c) x) ∗ both (fun x => dutyTok ER (finCell (prv x c)) 0 x)
    ∗ (cred (tallyAt (barCell c) () 2) ∗ atPos ER (barCell c) 0 ∅ 0) ∗ (cred (tallyAt (finCell c) () 2) ∗ atPos ER (finCell c) 0 ∅ 0)
    ∗ ∃ W, owes (c : Thread nD τ) (O₀ c) W)

/-- What it ends with. -/
def runPost : sProp 𝕄 :=
  iprop(all4 (fun x j => iprop(kept I c x j ∗ drain I c x j 15))
    ∗ (owns (c : Thread nD τ) (Memref.whole cc0_scratch3) fullShare (join2 fun x j => (blk I x j c 15).m)
      ∗ owns (c : Thread nD τ) (Memref.whole cc0_scratch4) fullShare (join2 fun x j => (blk I x j c 15).l)
      ∗ owns (c : Thread nD τ) (Memref.whole cc0_scratch2) fullShare (join3 fun x j => (blk I x j c 15).o))
    ∗ semVal (barCell c) 0 ∗ semVal (finCell c) 0 ∗ ∃ W, owes (c : Thread nD τ) 0 W)

/-- A whole buffer read through the rectangle of all of it. -/
theorem whole3 {α : Type} (X : S16x64x256.Idx → α) {inb : ∀ a, (![0, 0, 0] : Fin 3 → ℕ) a + S16x64x256.size a ≤ S16x64x256.size a} :
    (fun i => X ((Rect.unit (s := S16x64x256) ![0, 0, 0] S16x64x256.size inb).emb i)) = X := by
  funext i
  congr 1
  funext a
  apply Fin.ext
  fin_cases a
  · show 0 + 1 * (i 0).val = (i 0).val; omega
  · show 0 + 1 * (i 1).val = (i 1).val; omega
  · show 0 + 1 * (i 2).val = (i 2).val; omega

/-- The same of one number per head and query. -/
theorem whole2 {α : Type} (X : S16x256.Idx → α) {inb : ∀ a, (![0, 0] : Fin 2 → ℕ) a + S16x256.size a ≤ S16x256.size a} :
    (fun i => X ((Rect.unit (s := S16x256) ![0, 0] S16x256.size inb).emb i)) = X := by
  funext i
  congr 1
  funext a
  apply Fin.ext
  fin_cases a
  · show 0 + 1 * (i 0).val = (i 0).val; omega
  · show 0 + 1 * (i 1).val = (i 1).val; omega

/-- The first hop's copies, in the order in which they are started. -/
theorem owed_first : owedFrom c 0 = owedFrom c 1 + owedCopy c 0 true true + owedCopy c 0 true false + owedCopy c 0 false true + owedCopy c 0 false false := by
  rw [owedFrom_hop c (by decide : 0 < 15), add_right_comm (owedFrom c (0 + 1) + owedCopy c 0 true true)]

/-- What the first loop leaves. -/
theorem inv1_end : inv1 I K c mq (Scf.trips k0_t1_loop.lb k0_t1_loop.ub k0_t1_loop.st) ⊢ iprop(owns (c : Thread nD τ) mq fullShare (I.q c)
    ∗ ((hops I c false false 14 ∗ lane c false false (blk I false false c 14)) ∗ (hops I c false true 14 ∗ lane c false true (blk I false true c 14))
      ∗ (hops I c true false 14 ∗ lane c true false (blk I true false c 14)) ∗ (hops I c true true 14 ∗ lane c true true (blk I true true c 14)))
    ∗ ∃ W, owes (c : Thread nD τ) (owedFin c) W) := by
  rw [show Scf.trips k0_t1_loop.lb k0_t1_loop.ub k0_t1_loop.st = 14 from rfl]
  unfold inv1 all4
  rw [owedFrom_last]
  iintro ⟨-, -, H⟩
  iexact H

/-- What the second loop leaves. -/
theorem inv2_end : inv2 I K c (Scf.trips k0_t2_loop.lb k0_t2_loop.ub k0_t2_loop.st) ⊢ iprop((drain I c false false 15 ∗ drain I c false true 15 ∗ drain I c true false 15 ∗ drain I c true true 15)
    ∗ ∃ W, owes (c : Thread nD τ) (owedFin c) W) := by
  rw [show Scf.trips k0_t2_loop.lb k0_t2_loop.ub k0_t2_loop.st = 15 from rfl]
  unfold inv2 all4
  iintro ⟨-, -, H⟩
  iexact H

/-- The quotient the kernel stores at last is the kernel's result. -/
theorem out_eq {i3 : ∀ a, (![0, 0, 0] : Fin 3 → ℕ) a + S16x64x256.size a ≤ S16x64x256.size a} {i2 : ∀ a, (![0, 0] : Fin 2 → ℕ) a + S16x256.size a ≤ S16x256.size a} :
    k0_pay110 (fun i => (join3 fun x j => (blk I x j c 15).o) ((Rect.unit (s := S16x64x256) ![0, 0, 0] S16x64x256.size i3).emb i))
      (fun i => (join2 fun x j => (blk I x j c 15).l) ((Rect.unit (s := S16x256) ![0, 0] S16x256.size i2).emb i)) = outV I c := by
  have h3 := whole3 (join3 fun x j => (blk I x j c 15).o) (inb := i3)
  have h2 := whole2 (join2 fun x j => (blk I x j c 15).l) (inb := i2)
  exact congrArg₂ k0_pay110 h3 h2

/-- A store of a whole output block. -/
theorem wp_store_whole {α : Type} {X w : Vec F S16x64x256 .f32} {inb : ∀ a, (![0, 0, 0] : Fin 3 → ℕ) a + S16x64x256.size a ≤ S16x64x256.size a}
    {hx} {hm} {k : PUnit → Prog (TpuEff nD τ sig (Elt F) Λ₀ .tc) α} {Q : α → sProp 𝕄} :
    (owns (c : Thread nD τ) mo fullShare X : sProp 𝕄)
      ⊢ iprop((owns (c : Thread nD τ) mo fullShare w -∗ WP c (k ⟨⟩) Q)
        -∗ WP c (.op (.store mo (Rect.unit (s := S16x64x256) ![0, 0, 0] S16x64x256.size inb) w Finset.univ hx hm) k) Q) := by
  have he : ∀ z : S16x64x256.Idx, (Rect.unit (s := S16x64x256) ![0, 0, 0] S16x64x256.size inb).emb z = z := fun z => congrFun (whole3 (fun i => i)) z
  iintro H Hk
  ihave H' := (owns_open (m := mo) c fullShare X) $$ H
  icases H' with ⟨%f, %hf, H⟩
  have hS : (mo.access (Rect.unit (s := S16x64x256) ![0, 0, 0] S16x64x256.size inb)).setOn Finset.univ ⊆ mo.view.set := by
    intro i hi
    obtain ⟨x, -, rfl⟩ := Finset.mem_map.mp hi
    exact mo.view.emb_mem_set _
  have hv : mo.view.read (Elt F) ((mo.access (Rect.unit (s := S16x64x256) ![0, 0, 0] S16x64x256.size inb)).write (Elt F) f w Finset.univ) = w := by
    funext z
    have : (mo.access (Rect.unit (s := S16x64x256) ![0, 0, 0] S16x64x256.size inb)).read (Elt F)
      ((mo.access (Rect.unit (s := S16x64x256) ![0, 0, 0] S16x64x256.size inb)).write (Elt F) f w Finset.univ) z = w z := by rw [View.read_write_univ]
    rw [← this]
    show _root_.cast _ ((mo.access (Rect.unit (s := S16x64x256) ![0, 0, 0] S16x64x256.size inb)).write (Elt F) f w Finset.univ (mo.view.emb z))
        = _root_.cast _ ((mo.access (Rect.unit (s := S16x64x256) ![0, 0, 0] S16x64x256.size inb)).write (Elt F) f w Finset.univ
            (mo.view.emb ((Rect.unit (s := S16x64x256) ![0, 0, 0] S16x64x256.size inb).emb z)))
    rw [he z]
  iapply (wp_store 𝒱₀ (c : Thread nD τ) none Set.univ (m := mo) (r := Rect.unit (s := S16x64x256) ![0, 0, 0] S16x64x256.size inb) (w := w) (hx := hx) (hm := hm) (k := k) (f := f) hS) $$ H
  iintro H
  iapply Hk
  iapply (show (mo.view.loc (c : Thread nD τ) ↦[mo.view.set]{fullShare}
        ((mo.access (Rect.unit (s := S16x64x256) ![0, 0, 0] S16x64x256.size inb)).write (Elt F) f w Finset.univ) : sProp 𝕄)
      ⊢ owns (c : Thread nD τ) mo fullShare w from owns_of_read c mo hv)
  iexact H

set_option maxHeartbeats 800000 in
/-- The kernel on one device: from what it starts with to what it ends with, its output block holding `outV`. -/
theorem run [∀ e, Nonempty (Elt F e)] (Xo : Vec F S16x64x256 .f32) :
    iprop(AllInv I K ∗ levAts L lv ∗ runPre c ∗ owns (c : Thread nD τ) mq fullShare (I.q c) ∗ owns (c : Thread nD τ) mk fullShare (I.k c)
        ∗ owns (c : Thread nD τ) mv fullShare (I.v c) ∗ owns (c : Thread nD τ) mo fullShare Xo)
      ⊢ WP c (cc0__body mq hmq mk hmk mv hmv mo hmo (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0) (fun _ => iprop(runPost I c ∗ owns (c : Thread nD τ) mq fullShare (I.q c) ∗ owns (c : Thread nD τ) mk fullShare (I.k c)
        ∗ owns (c : Thread nD τ) mv fullShare (I.v c) ∗ owns (c : Thread nD τ) mo fullShare (outV I c))) := by
  unfold runPre runPost all4 both lanePre
  rw [show O₀ c = owedFrom c 0 + tallyAt (barCell (prv true c)) () 1 + tallyAt (barCell (prv false c)) () 1 from by
    unfold O₀ owedBar; rw [add_assoc]]
  rw [cc0__body_eq_skeleton]
  unfold cc0__body_skel
  simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold k0_part25_skel
  simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold k0_part10_skel k0_part11_skel k0_part12_skel k0_part13_skel k0_part14_skel k0_part15_skel k0_part16_skel k0_part17_skel k0_part18_skel k0_part19_skel k0_part20_skel k0_part21_skel k0_part22_skel k0_part23_skel k0_part24_skel
  simp only [semSignalWord, semWaitWord, Prog.lift, Prog.bind_op, Prog.bind_ret, Prog.pure_eq_ret, Prog.bind_assoc, wp_deviceId]
  iintro ⟨#HI, #Hlev, ⟨⟨⟨Sff, Aff, Rff, ⟨%Bff, Lff⟩⟩, ⟨Sft, Aft, Rft, ⟨%Bft, Lft⟩⟩, ⟨Stf, Atf, Rtf, ⟨%Btf, Ltf⟩⟩, ⟨Stt, Att, Rtt, ⟨%Btt, Ltt⟩⟩⟩, ⟨Bf, Bt⟩, ⟨Pf, Pt⟩, ⟨Df, Dt⟩, Hbar, Hfin, HO⟩, Hq, Hk, Hv, Ho⟩
  iapply (wp_bar_signal I K c false (O := owedFrom c 0 + tallyAt (barCell (prv true c)) () 1) (dev_eq (x := !false) (k0_dev1_eq c)) rfl rfl) $$ [Bf Pf HO]
  · isplitr; · iexact HI
    isplitl [Bf]; · iexact Bf
    isplitl [Pf]; · iexact Pf
    iexact HO
  iintro HO
  iapply (wp_bar_signal I K c true (O := owedFrom c 0) (dev_eq (x := !true) (k0_dev2_eq c)) rfl rfl) $$ [Bt Pt HO]
  · isplitr; · iexact HI
    isplitl [Bt]; · iexact Bt
    isplitl [Pt]; · iexact Pt
    iexact HO
  iintro HO
  iapply (wp_bar_wait I K c (O := owedFrom c 0) (above_from c (m := 0) (by omega) (by omega)) rfl rfl) $$ [Hbar HO]
  · isplitr; · iexact HI
    isplitr; · iexact Hlev
    isplitl [Hbar]; · iexact Hbar
    iexact HO
  iintro ⟨Pf, Pt, Hbar, HO⟩
  ihave Pf := (arm c false) $$ [Aff Aft Pf]
  · isplitl [Aff]; · iexact Aff
    isplitl [Aft]; · iexact Aft
    iexact Pf
  icases Pf with ⟨Aff, Aft, Ff⟩
  ihave Pt := (arm c true) $$ [Atf Att Pt]
  · isplitl [Atf]; · iexact Atf
    isplitl [Att]; · iexact Att
    iexact Pt
  icases Pt with ⟨Atf, Att, Ft⟩
  icases Sff with ⟨%Zff, Sff⟩
  rw [eq_pack Zff]
  iapply (wp_load_part c (rowR false false)) $$ Hk
  iintro Hk
  iapply (wp_load_half c false false false 0 (m := Memref.whole cc0_scratch0) rfl rfl) $$ Sff
  iintro Sff
  iapply (wp_store_half c false false false 0 (m := Memref.whole cc0_scratch0) rfl rfl) $$ Sff
  iintro Sff
  iapply (wp_load_part c (rowR false false)) $$ Hv
  iintro Hv
  iapply (wp_load_half c false false true 0 (m := Memref.whole cc0_scratch0) rfl rfl) $$ Sff
  iintro Sff
  iapply (wp_store_half c false false true 0 (m := Memref.whole cc0_scratch0) rfl rfl) $$ Sff
  iintro Sff
  icases Stf with ⟨%Ztf, Stf⟩
  rw [eq_pack Ztf]
  iapply (wp_load_part c (rowR true false)) $$ Hk
  iintro Hk
  iapply (wp_load_half c true false false 0 (m := Memref.whole cc0_scratch1) rfl rfl) $$ Stf
  iintro Stf
  iapply (wp_store_half c true false false 0 (m := Memref.whole cc0_scratch1) rfl rfl) $$ Stf
  iintro Stf
  iapply (wp_load_part c (rowR true false)) $$ Hv
  iintro Hv
  iapply (wp_load_half c true false true 0 (m := Memref.whole cc0_scratch1) rfl rfl) $$ Stf
  iintro Stf
  iapply (wp_store_half c true false true 0 (m := Memref.whole cc0_scratch1) rfl rfl) $$ Stf
  iintro Stf
  icases Sft with ⟨%Zft, Sft⟩
  rw [eq_pack Zft]
  iapply (wp_load_part c (rowR false true)) $$ Hk
  iintro Hk
  iapply (wp_load_half c false true false 0 (m := Memref.whole cc0_scratch0) rfl rfl) $$ Sft
  iintro Sft
  iapply (wp_store_half c false true false 0 (m := Memref.whole cc0_scratch0) rfl rfl) $$ Sft
  iintro Sft
  iapply (wp_load_part c (rowR false true)) $$ Hv
  iintro Hv
  iapply (wp_load_half c false true true 0 (m := Memref.whole cc0_scratch0) rfl rfl) $$ Sft
  iintro Sft
  iapply (wp_store_half c false true true 0 (m := Memref.whole cc0_scratch0) rfl rfl) $$ Sft
  iintro Sft
  icases Stt with ⟨%Ztt, Stt⟩
  rw [eq_pack Ztt]
  iapply (wp_load_part c (rowR true true)) $$ Hk
  iintro Hk
  iapply (wp_load_half c true true false 0 (m := Memref.whole cc0_scratch1) rfl rfl) $$ Stt
  iintro Stt
  iapply (wp_store_half c true true false 0 (m := Memref.whole cc0_scratch1) rfl rfl) $$ Stt
  iintro Stt
  iapply (wp_load_part c (rowR true true)) $$ Hv
  iintro Hv
  iapply (wp_load_half c true true true 0 (m := Memref.whole cc0_scratch1) rfl rfl) $$ Stt
  iintro Stt
  iapply (wp_store_half c true true true 0 (m := Memref.whole cc0_scratch1) rfl rfl) $$ Stt
  iintro Stt
  ihave HO := (Entails.of_eq (congrArg (fun O => (iprop(∃ W, owes (c : Thread nD τ) O W) : sProp 𝕄)) (owed_first c))) $$ HO
  iapply (wp_first I K c false false (O := owedFrom c 1 + owedCopy c 0 true true + owedCopy c 0 true false + owedCopy c 0 false true)
      (dev_eq (k0_dev3_eq c)) (slotM_eq false false (by omega) rfl rfl) (slotM_eq false false (by omega) rfl rfl)
      (sem_eq false false false (by omega) rfl rfl) (sem_eq true false false (by omega) rfl rfl)) $$ [Sff Aff Rff HO]
  · isplitr; · iexact HI
    isplitl [Sff]; · iexact Sff
    isplitl [Aff]; · iexact Aff
    isplitl [Rff]; · iexact Rff
    iexact HO
  iintro ⟨Hff, HO⟩
  iapply (wp_first I K c false true (O := owedFrom c 1 + owedCopy c 0 true true + owedCopy c 0 true false)
      (dev_eq (k0_dev4_eq c)) (slotM_eq false true (by omega) rfl rfl) (slotM_eq false true (by omega) rfl rfl)
      (sem_eq false false true (by omega) rfl rfl) (sem_eq true false true (by omega) rfl rfl)) $$ [Sft Aft Rft HO]
  · isplitr; · iexact HI
    isplitl [Sft]; · iexact Sft
    isplitl [Aft]; · iexact Aft
    isplitl [Rft]; · iexact Rft
    iexact HO
  iintro ⟨Hft, HO⟩
  iapply (wp_first I K c true false (O := owedFrom c 1 + owedCopy c 0 true true)
      (dev_eq (k0_dev5_eq c)) (slotM_eq true false (by omega) rfl rfl) (slotM_eq true false (by omega) rfl rfl)
      (sem_eq false true false (by omega) rfl rfl) (sem_eq true true false (by omega) rfl rfl)) $$ [Stf Atf Rtf HO]
  · isplitr; · iexact HI
    isplitl [Stf]; · iexact Stf
    isplitl [Atf]; · iexact Atf
    isplitl [Rtf]; · iexact Rtf
    iexact HO
  iintro ⟨Htf, HO⟩
  iapply (wp_first I K c true true (O := owedFrom c 1)
      (dev_eq (k0_dev6_eq c)) (slotM_eq true true (by omega) rfl rfl) (slotM_eq true true (by omega) rfl rfl)
      (sem_eq false true true (by omega) rfl rfl) (sem_eq true true true (by omega) rfl rfl)) $$ [Stt Att Rtt HO]
  · isplitr; · iexact HI
    isplitl [Stt]; · iexact Stt
    isplitl [Att]; · iexact Att
    isplitl [Rtt]; · iexact Rtt
    iexact HO
  iintro ⟨Htt, HO⟩
  ihave Hp := (hops_read I c false false 0) $$ Hff
  icases Hp with ⟨Hs, Hback⟩
  iapply (wp_attn0 c false false 0 (K := asSlot (rows false false (I.k (src false 0 c)))) (V := asSlot (rows false false (I.v (src false 0 c)))) (mk := Memref.whole cc0_scratch0) rfl rfl rfl rfl rfl rfl) $$ [Hq Hs Lff]
  · isplitl [Hq]; · iexact Hq
    isplitl [Hs]; · iexact Hs
    iexact Lff
  iintro ⟨Hq, Hs, Lff⟩
  ihave Hff := Hback $$ Hs
  ihave Hp := (hops_read I c false true 0) $$ Hft
  icases Hp with ⟨Hs, Hback⟩
  iapply (wp_attn0 c false true 0 (K := asSlot (rows false true (I.k (src false 0 c)))) (V := asSlot (rows false true (I.v (src false 0 c)))) (mk := Memref.whole cc0_scratch0) rfl rfl rfl rfl rfl rfl) $$ [Hq Hs Lft]
  · isplitl [Hq]; · iexact Hq
    isplitl [Hs]; · iexact Hs
    iexact Lft
  iintro ⟨Hq, Hs, Lft⟩
  ihave Hft := Hback $$ Hs
  ihave Hp := (hops_read I c true false 0) $$ Htf
  icases Hp with ⟨Hs, Hback⟩
  iapply (wp_attn0 c true false 0 (K := asSlot (rows true false (I.k (src true 0 c)))) (V := asSlot (rows true false (I.v (src true 0 c)))) (mk := Memref.whole cc0_scratch1) rfl rfl rfl rfl rfl rfl) $$ [Hq Hs Ltf]
  · isplitl [Hq]; · iexact Hq
    isplitl [Hs]; · iexact Hs
    iexact Ltf
  iintro ⟨Hq, Hs, Ltf⟩
  ihave Htf := Hback $$ Hs
  ihave Hp := (hops_read I c true true 0) $$ Htt
  icases Hp with ⟨Hs, Hback⟩
  iapply (wp_attn0 c true true 0 (K := asSlot (rows true true (I.k (src true 0 c)))) (V := asSlot (rows true true (I.v (src true 0 c)))) (mk := Memref.whole cc0_scratch1) rfl rfl rfl rfl rfl rfl) $$ [Hq Hs Ltt]
  · isplitl [Hq]; · iexact Hq
    isplitl [Hs]; · iexact Hs
    iexact Ltt
  iintro ⟨Hq, Hs, Ltt⟩
  ihave Htt := Hback $$ Hs
  iapply (Scf.wp_for_bind frame (wpE (defs₀ (F := F)) 𝒱₀ (c : Thread nD τ) none) Set.univ _ _ _ _ _ _ (fun t _ => inv1 I K c mq t)
      (fun t acc => trip1 I K c mq hmq mk hmk mv hmv mo hmo c rfl _ _ _ _ t acc)) $$ [Hq Hff Hft Htf Htt Lff Lft Ltf Ltt HO]
  · unfold inv1 all4
    isplitr; · iexact HI
    isplitr; · iexact Hlev
    isplitl [Hq]; · iexact Hq
    isplitr [HO]
    · isplitl [Hff Lff]
      · isplitl [Hff]; · iexact Hff
        iexact Lff
      isplitl [Hft Lft]
      · isplitl [Hft]; · iexact Hft
        iexact Lft
      isplitl [Htf Ltf]
      · isplitl [Htf]; · iexact Htf
        iexact Ltf
      isplitl [Htt]; · iexact Htt
      iexact Ltt
    iexact HO
  iintro %acc H1
  ihave H1 := (inv1_end I K c mq) $$ H1
  icases H1 with ⟨Hq, ⟨⟨Hff, Lff⟩, ⟨Hft, Lft⟩, ⟨Htf, Ltf⟩, ⟨Htt, Ltt⟩⟩, HO⟩
  iapply (wp_last I K c false false (O := owedFin c) (above_fin c (by omega))
      (sem_eq true false false (h := 14) (by omega) rfl rfl) (credit_eq false false (s := 15) (by omega) rfl rfl)) $$ [Hff HO]
  · isplitr; · iexact HI
    isplitr; · iexact Hlev
    isplitl [Hff]; · iexact Hff
    iexact HO
  iintro ⟨Hff, HO⟩
  iapply (wp_last I K c false true (O := owedFin c) (above_fin c (by omega))
      (sem_eq true false true (h := 14) (by omega) rfl rfl) (credit_eq false true (s := 15) (by omega) rfl rfl)) $$ [Hft HO]
  · isplitr; · iexact HI
    isplitr; · iexact Hlev
    isplitl [Hft]; · iexact Hft
    iexact HO
  iintro ⟨Hft, HO⟩
  iapply (wp_last I K c true false (O := owedFin c) (above_fin c (by omega))
      (sem_eq true true false (h := 14) (by omega) rfl rfl) (credit_eq true false (s := 15) (by omega) rfl rfl)) $$ [Htf HO]
  · isplitr; · iexact HI
    isplitr; · iexact Hlev
    isplitl [Htf]; · iexact Htf
    iexact HO
  iintro ⟨Htf, HO⟩
  iapply (wp_last I K c true true (O := owedFin c) (above_fin c (by omega))
      (sem_eq true true true (h := 14) (by omega) rfl rfl) (credit_eq true true (s := 15) (by omega) rfl rfl)) $$ [Htt HO]
  · isplitr; · iexact HI
    isplitr; · iexact Hlev
    isplitl [Htt]; · iexact Htt
    iexact HO
  iintro ⟨Htt, HO⟩
  ihave Hp := (done_read I c false false) $$ Hff
  icases Hp with ⟨Hs, Hback⟩
  iapply (wp_attn c false false 15 (K := asSlot (rows false false (I.k (src false 15 c)))) (V := asSlot (rows false false (I.v (src false 15 c)))) (mk := Memref.whole cc0_scratch0) rfl rfl rfl rfl rfl rfl) $$ [Hq Hs Lff]
  · isplitl [Hq]; · iexact Hq
    isplitl [Hs]; · iexact Hs
    iexact Lff
  iintro ⟨Hq, Hs, Lff⟩
  ihave Hff := Hback $$ Hs
  ihave Hp := (done_read I c false true) $$ Hft
  icases Hp with ⟨Hs, Hback⟩
  iapply (wp_attn c false true 15 (K := asSlot (rows false true (I.k (src false 15 c)))) (V := asSlot (rows false true (I.v (src false 15 c)))) (mk := Memref.whole cc0_scratch0) rfl rfl rfl rfl rfl rfl) $$ [Hq Hs Lft]
  · isplitl [Hq]; · iexact Hq
    isplitl [Hs]; · iexact Hs
    iexact Lft
  iintro ⟨Hq, Hs, Lft⟩
  ihave Hft := Hback $$ Hs
  ihave Hp := (done_read I c true false) $$ Htf
  icases Hp with ⟨Hs, Hback⟩
  iapply (wp_attn c true false 15 (K := asSlot (rows true false (I.k (src true 15 c)))) (V := asSlot (rows true false (I.v (src true 15 c)))) (mk := Memref.whole cc0_scratch1) rfl rfl rfl rfl rfl rfl) $$ [Hq Hs Ltf]
  · isplitl [Hq]; · iexact Hq
    isplitl [Hs]; · iexact Hs
    iexact Ltf
  iintro ⟨Hq, Hs, Ltf⟩
  ihave Htf := Hback $$ Hs
  ihave Hp := (done_read I c true true) $$ Htt
  icases Hp with ⟨Hs, Hback⟩
  iapply (wp_attn c true true 15 (K := asSlot (rows true true (I.k (src true 15 c)))) (V := asSlot (rows true true (I.v (src true 15 c)))) (mk := Memref.whole cc0_scratch1) rfl rfl rfl rfl rfl rfl) $$ [Hq Hs Ltt]
  · isplitl [Hq]; · iexact Hq
    isplitl [Hs]; · iexact Hs
    iexact Ltt
  iintro ⟨Hq, Hs, Ltt⟩
  ihave Htt := Hback $$ Hs
  ihave HL := (lanes_join c (fun x j => blk I x j c 15)) $$ [Lff Lft Ltf Ltt]
  · unfold all4
    isplitl [Lff]; · iexact Lff
    isplitl [Lft]; · iexact Lft
    isplitl [Ltf]; · iexact Ltf
    iexact Ltt
  icases HL with ⟨HM, HL, HA⟩
  iapply (wp_load_part c _) $$ HA
  iintro HA
  iapply (wp_load_part c _) $$ HL
  iintro HL
  iapply (wp_load_part c _) $$ Ho
  iintro Ho
  iapply (wp_store_whole c) $$ Ho
  iintro Ho
  ihave Hff := (done_split I c false false) $$ Hff
  icases Hff with ⟨Kff, Hff⟩
  ihave Hft := (done_split I c false true) $$ Hft
  icases Hft with ⟨Kft, Hft⟩
  ihave Htf := (done_split I c true false) $$ Htf
  icases Htf with ⟨Ktf, Htf⟩
  ihave Htt := (done_split I c true true) $$ Htt
  icases Htt with ⟨Ktt, Htt⟩
  iapply (Scf.wp_for_bind frame (wpE (defs₀ (F := F)) 𝒱₀ (c : Thread nD τ) none) Set.univ _ _ _ _ _ _ (fun t _ => inv2 I K c t)
      (fun t acc => trip2 I K c mq hmq mk hmk mv hmv mo hmo t acc)) $$ [Hff Hft Htf Htt HO]
  · unfold inv2 all4
    isplitr; · iexact HI
    isplitr; · iexact Hlev
    isplitr [HO]
    · isplitl [Hff]; · iexact Hff
      isplitl [Hft]; · iexact Hft
      isplitl [Htf]; · iexact Htf
      iexact Htt
    iexact HO
  iintro %acc2 H1
  ihave H1 := (inv2_end I K c) $$ H1
  icases H1 with ⟨⟨Hff, Hft, Htf, Htt⟩, HO⟩
  iapply (wp_fin_signal I K c false (O := tallyAt (finCell (prv true c)) () 1) (dev_eq (x := !false) (k0_dev11_eq c)) rfl rfl) $$ [Df Ft HO]
  · isplitr; · iexact HI
    isplitr [HO]
    · unfold finRes
      isplitl [Df]; · iexact Df
      iexact Ft
    iexact HO
  iintro HO
  ihave HO := (Entails.of_eq (congrArg (fun O => (iprop(∃ W, owes (c : Thread nD τ) O W) : sProp 𝕄)) (zero_add (tallyAt (finCell (prv true c)) () 1)).symm)) $$ HO
  iapply (wp_fin_signal I K c true (O := 0) (dev_eq (x := !true) (k0_dev12_eq c)) rfl rfl) $$ [Dt Ff HO]
  · isplitr; · iexact HI
    isplitr [HO]
    · unfold finRes
      isplitl [Dt]; · iexact Dt
      iexact Ff
    iexact HO
  iintro HO
  iapply (wp_fin_wait I K c rfl rfl) $$ [Hfin HO]
  · isplitr; · iexact HI
    isplitl [Hfin]; · iexact Hfin
    iexact HO
  iintro ⟨Hfin, HO⟩
  iapply wp_end
  isplitr [Hq Hk Hv Ho]
  · isplitl [Kff Kft Ktf Ktt Hff Hft Htf Htt]
    · isplitl [Kff Hff]
      · isplitl [Kff]; · iexact Kff
        iexact Hff
      isplitl [Kft Hft]
      · isplitl [Kft]; · iexact Kft
        iexact Hft
      isplitl [Ktf Htf]
      · isplitl [Ktf]; · iexact Ktf
        iexact Htf
      isplitl [Ktt]; · iexact Ktt
      iexact Htt
    isplitl [HM HL HA]
    · isplitl [HM]; · iexact HM
      isplitl [HL]; · iexact HL
      iexact HA
    isplitl [Hbar]; · iexact Hbar
    isplitl [Hfin]; · iexact Hfin
    iexact HO
  isplitl [Hq]; · iexact Hq
  isplitl [Hk]; · iexact Hk
  isplitl [Hv]; · iexact Hv
  ihave Ho := (Entails.of_eq (congrArg (owns (c : Thread nD τ) mo fullShare) (out_eq I c))) $$ Ho
  iexact Ho

end Run

end Cert.Ring

end
-- ==== Proof.Ghost.lean ====
/-
What the launch hands to every device: the semaphores' invariants, the tokens of the duties each device pays,
and the credit each device waits with.
-/
module

public import proofs.«01_k».proof.Proof.Run

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Families

/-- A family over the fifteen hops, counted by numbers below fifteen. -/
theorem bigSep_fin15 (Φ : ℕ → sProp 𝕄) :
    bigSep (Finset.univ : Finset (Fin 15)) (fun s => Φ s.val) = bigSep (Finset.range 15) Φ :=
  Ring.bigSep_fin_eq_range 15 _ Φ fun _ _ => rfl

/-- Two pairs are four in a row. -/
theorem four (A B C D : sProp 𝕄) : iprop((A ∗ B) ∗ (C ∗ D)) = iprop(A ∗ B ∗ C ∗ D) := by
  refine BI.Entails.antisymm (show _ ⊢ (_ : sProp 𝕄) from ?_) (show _ ⊢ (_ : sProp 𝕄) from ?_)
  · iintro ⟨⟨HA, HB⟩, HC, HD⟩
    isplitl [HA]; · iexact HA
    isplitl [HB]; · iexact HB
    isplitl [HC]; · iexact HC
    iexact HD
  · iintro ⟨HA, HB, HC, HD⟩
    isplitl [HA HB]
    · isplitl [HA]; · iexact HA
      iexact HB
    isplitl [HC]; · iexact HC
    iexact HD

/-- A family over chains, sub-blocks and hops, chain by chain and sub-block by sub-block. -/
theorem family4 (Φ : Bool → Bool → ℕ → sProp 𝕄) :
    bigSep (Finset.univ : Finset (Bool × Bool × Fin 15)) (fun k => Φ k.1 k.2.1 k.2.2.val)
      = all4 fun x j => bigSep (Finset.range 15) fun h => Φ x j h := by
  rw [bigSep_univ_prod, bigSep_bool, bigSep_univ_prod, bigSep_univ_prod, bigSep_bool, bigSep_bool,
    bigSep_fin15 (fun h => Φ false false h), bigSep_fin15 (fun h => Φ false true h), bigSep_fin15 (fun h => Φ true false h),
    bigSep_fin15 (fun h => Φ true true h), four]
  rfl

/-- A family over the copies' semaphores: the sends, then the receives. -/
theorem family8 (Ψ : SemLoc sig → sProp 𝕄) :
    bigSep (Finset.univ : Finset (Bool × Bool × Bool × Fin 15)) (fun k => Ψ (osem (some k)))
      = iprop((all4 (F := F) fun x j => bigSep (Finset.range 15) fun h => Ψ (sendS x j h))
          ∗ all4 (F := F) fun x j => bigSep (Finset.range 15) fun h => Ψ (recvS x j h)) := by
  rw [bigSep_univ_prod, bigSep_bool]
  exact congrArg₂ (fun A B => iprop(A ∗ B)) (family4 fun x j h => Ψ (sendS x j h)) (family4 fun x j h => Ψ (recvS x j h))

/-- A family over a device's own semaphores: the closing one, the sends, the receives. -/
theorem family (Ψ : SemLoc sig → sProp 𝕄) :
    bigSep (Finset.univ : Finset SK) (fun k => Ψ (osem k))
      = iprop(Ψ finS ∗ (all4 (F := F) fun x j => bigSep (Finset.range 15) fun h => Ψ (sendS x j h))
          ∗ all4 (F := F) fun x j => bigSep (Finset.range 15) fun h => Ψ (recvS x j h)) := by
  have e : (Finset.univ : Finset SK) = insert none (Finset.univ.map ⟨some, Option.some_injective _⟩) := by
    ext k; cases k <;> simp
  rw [e, bigSep_insert (by simp), bigSep_map]
  exact congrArg (fun A => iprop(Ψ finS ∗ A)) (family8 Ψ)

/-- A family over `n + 1` numbers is its first member and the family moved by one. -/
theorem bigSep_shift (n : ℕ) (Φ : ℕ → sProp 𝕄) :
    bigSep (Finset.range (n + 1)) Φ = iprop(Φ 0 ∗ bigSep (Finset.range n) fun h => Φ (h + 1)) := by
  rw [Finset.range_add_one', bigSep_insert (by simp), bigSep_map]
  rfl

end Families

/-! ## The tokens -/

/-- The duties of one device's semaphores: two of the barrier's, two of the closing one's, one of each copy's two. -/
abbrev TK : Type := (Bool × Bool) ⊕ (Bool × Bool × Bool × Fin 15)
/-- The semaphore and the payer's name of a token a device pays with. -/
def tsem : TK → SemLoc sig × Bool
  | .inl (f, d) => (bif f then finS else barS, d)
  | .inr k => (osem (some k), false)

/-- Different tokens pay different duties. -/
theorem tsem_inj : Function.Injective tsem := by
  have hne (k : Bool × Bool × Bool × Fin 15) (f : Bool) : osem (some k) ≠ (bif f then finS else barS) := by
    cases f
    · exact osem_ne_bar (some k)
    · exact fun h => by have := osem_inj (a₁ := some k) (a₂ := none) h; cases this
  rintro (⟨f, d⟩ | k) (⟨f', d'⟩ | k') h
  · have h1 := congrArg Prod.fst h
    have h2 := congrArg Prod.snd h
    cases h2
    cases f <;> cases f'
    · rfl
    · exact absurd h1.symm (osem_ne_bar none)
    · exact absurd h1 (osem_ne_bar none)
    · rfl
  · exact absurd (congrArg Prod.fst h).symm (hne k' f)
  · exact absurd (congrArg Prod.fst h) (hne k f')
  · have := osem_inj (a₁ := some k) (a₂ := some k') (congrArg Prod.fst h)
    rw [Option.some.injEq] at this
    rw [this]

/-- Each device's tokens among all duties. -/
def tokEmb : Dev nD × TK ↪ GSem nD τ sig × ℕ × Bool :=
  ⟨fun ck => (((ck.1 : Thread nD τ), (tsem ck.2).1), 0, (tsem ck.2).2), fun _ _ h =>
    Prod.ext (congrArg (fun t : GSem nD τ sig × ℕ × Bool => t.1.1.1) h)
      (tsem_inj (Prod.ext (congrArg (fun t : GSem nD τ sig × ℕ × Bool => t.1.2) h) (congrArg (fun t : GSem nD τ sig × ℕ × Bool => t.2.2) h)))⟩
/-- Every duty's token. -/
abbrev allToks : Finset (GSem nD τ sig × ℕ × Bool) := Finset.univ.map tokEmb

/-- The tokens of the duties of device `c`'s semaphores. -/
def toks (c : Dev nD) : sProp 𝕄 :=
  iprop((both fun x => dutyTok ER (barCell c) 0 x) ∗ (both fun x => dutyTok ER (finCell c) 0 x)
    ∗ (all4 fun x j => bigSep (Finset.range 15) fun h => dutyTok ER (sendCell c x j h) 0 false)
    ∗ all4 fun x j => bigSep (Finset.range 15) fun h => dutyTok ER (recvCell c x j h) 0 false)
/-- The tokens of the duties device `c` pays. -/
def mine (c : Dev nD) : sProp 𝕄 :=
  iprop((both fun x => dutyTok ER (barCell (prv x c)) 0 x) ∗ (both fun x => dutyTok ER (finCell (prv x c)) 0 x)
    ∗ (all4 fun x j => bigSep (Finset.range 15) fun h => dutyTok ER (sendCell c x j h) 0 false)
    ∗ all4 fun x j => bigSep (Finset.range 15) fun h => dutyTok ER (recvCell (nxt x c) x j h) 0 false)

/-- All duties' tokens are those that the devices pay with, dealt out by device. -/
theorem toks_eq : bigSep allToks (fun t => (dutyTok ER t.1 t.2.1 t.2.2 : sProp 𝕄)) = bigSep Finset.univ fun c : Dev nD => toks c := by
  rw [bigSep_map, bigSep_univ_prod]
  refine bigSep_congr fun c _ => ?_
  rw [bigSep_univ_sum, bigSep_univ_prod, bigSep_bool, bigSep_bool, bigSep_bool]
  show iprop(((dutyTok ER (barCell c) 0 false ∗ dutyTok ER (barCell c) 0 true) ∗ (dutyTok ER (finCell c) 0 false ∗ dutyTok ER (finCell c) 0 true))
      ∗ bigSep Finset.univ fun k => dutyTok ER ((c : Thread nD τ), osem (some k)) 0 false) = (toks c : sProp 𝕄)
  have h := family8 (fun sm => (dutyTok ER ((c : Thread nD τ), sm) 0 false : sProp 𝕄))
  refine BI.Entails.antisymm (show _ ⊢ (_ : sProp 𝕄) from ?_) (show _ ⊢ (_ : sProp 𝕄) from ?_)
  · unfold toks
    iintro ⟨⟨Hb, Hf⟩, Hr⟩
    isplitl [Hb]; · iexact Hb
    isplitl [Hf]; · iexact Hf
    iapply (Entails.of_eq h)
    iexact Hr
  · unfold toks
    iintro ⟨Hb, Hf, Hr⟩
    isplitl [Hb Hf]
    · isplitl [Hb]; · iexact Hb
      iexact Hf
    iapply (Entails.of_eq h.symm)
    iexact Hr

/-- Every token handed to the device that pays with it. -/
theorem toks_around : (bigSep Finset.univ fun c : Dev nD => (toks c : sProp 𝕄)) ⊢ bigSep Finset.univ fun c : Dev nD => mine c := by
  have hp (x : Bool) (P : Dev nD → sProp 𝕄) : bigSep Finset.univ (fun c : Dev nD => P c) = bigSep Finset.univ (fun c : Dev nD => P (prv x c)) :=
    bigSep_univ_equiv (ring x).symm P
  have hn (x : Bool) (P : Dev nD → sProp 𝕄) : bigSep Finset.univ (fun c : Dev nD => P c) = bigSep Finset.univ (fun c : Dev nD => P (nxt x c)) :=
    bigSep_univ_equiv (ring x) P
  refine Entails.of_eq ?_
  simp only [toks, mine, all4, bigSep_sep' Finset.univ]
  rw [hp false (fun c => dutyTok ER (barCell c) 0 false), hp true (fun c => dutyTok ER (barCell c) 0 true),
    hp false (fun c => dutyTok ER (finCell c) 0 false), hp true (fun c => dutyTok ER (finCell c) 0 true),
    hn false (fun c => bigSep (Finset.range 15) fun h => dutyTok ER (recvCell c false false h) 0 false),
    hn false (fun c => bigSep (Finset.range 15) fun h => dutyTok ER (recvCell c false true h) 0 false),
    hn true (fun c => bigSep (Finset.range 15) fun h => dutyTok ER (recvCell c true false h) 0 false),
    hn true (fun c => bigSep (Finset.range 15) fun h => dutyTok ER (recvCell c true true h) 0 false)]

/-! ## The credit -/

/-- What device `c` waits with at launch. -/
def credits (c : Dev nD) : sProp 𝕄 :=
  iprop(cred (tallyAt (barCell c) () 2) ∗ cred (tallyAt (finCell c) () 2)
    ∗ all4 fun x j => bigSep (Finset.range 15) fun h => cred (tallyAt (recvCell c x j h) () N))

/-- Two credits of one unit make a credit of two. -/
theorem cred_two (g : GSem nD τ sig) :
    (iprop(cred (tallyAt g () 1) ∗ cred (tallyAt g () 1)) : sProp 𝕄) ⊢ cred (tallyAt g () 2) := by
  rw [← tallyAt_add g () 1 1]
  exact (cred_add _ _).2

/-- The credit the launch gives a device is what its waits take. -/
theorem creds (c : Dev nD) : (Pipeline.launchCred O₀ c : sProp 𝕄) ⊢ credits c := by
  have e0 : (O₀ : Dev nD → CellTallies nD τ sig Unit) = fun d => (owedFin d + ∑ h ∈ Finset.range 15, owedHop d h) + owedBar d := by
    funext d; unfold O₀ owedFrom; rw [← Finset.range_eq_Ico]
  have e1 : (owedFin : Dev nD → CellTallies nD τ sig Unit) = fun d => tallyAt (finCell (prv true d)) () 1 + tallyAt (finCell (prv false d)) () 1 := rfl
  have e2 : (owedBar : Dev nD → CellTallies nD τ sig Unit) = fun d => tallyAt (barCell (prv true d)) () 1 + tallyAt (barCell (prv false d)) () 1 := rfl
  have e3 (h : ℕ) : (fun d => owedHop d h : Dev nD → CellTallies nD τ sig Unit)
      = fun d => ((owedCopy d h true true + owedCopy d h false true) + owedCopy d h true false) + owedCopy d h false false := rfl
  have hf (x : Bool) := Pipeline.launchCred_tallyAt (τ := τ) (Val := Elt F) (Name := ℕ) (U := UU) (Lvl := ℕ) finS (prv x) (nxt x) (prv_nxt x) (nxt_prv x) () 1 c
  have hb (x : Bool) := Pipeline.launchCred_tallyAt (τ := τ) (Val := Elt F) (Name := ℕ) (U := UU) (Lvl := ℕ) barS (prv x) (nxt x) (prv_nxt x) (nxt_prv x) () 1 c
  have hr (x j : Bool) (h : ℕ) := Pipeline.launchCred_tallyAt (τ := τ) (Val := Elt F) (Name := ℕ) (U := UU) (Lvl := ℕ) (recvS x j h) (nxt x) (prv x) (nxt_prv x) (prv_nxt x) () N c
  have hrr (x j : Bool) : (bigSep (Finset.range 15) fun h => Pipeline.launchCred (fun d => owedCopy d h x j) c : sProp 𝕄)
      ⊢ bigSep (Finset.range 15) fun h => cred (tallyAt (recvCell c x j h) () N) := bigSep_mono fun h _ => hr x j h
  have hs : (bigSep (Finset.range 15) fun h => Pipeline.launchCred (fun d => owedHop d h) c : sProp 𝕄)
      ⊢ all4 fun x j => bigSep (Finset.range 15) fun h => cred (tallyAt (recvCell c x j h) () N) := by
    simp only [e3, Pipeline.launchCred_add]
    rw [bigSep_sep', bigSep_sep', bigSep_sep']
    unfold all4
    iintro ⟨⟨⟨H1, H2⟩, H3⟩, H4⟩
    isplitl [H4]; · iapply (hrr false false); iexact H4
    isplitl [H2]; · iapply (hrr false true); iexact H2
    isplitl [H3]; · iapply (hrr true false); iexact H3
    iapply (hrr true true); iexact H1
  rw [e0, Pipeline.launchCred_add, Pipeline.launchCred_add, Pipeline.launchCred_sum, e1, e2, Pipeline.launchCred_add, Pipeline.launchCred_add]
  unfold credits
  iintro ⟨⟨⟨F1, F2⟩, HS⟩, B1, B2⟩
  isplitl [B1 B2]
  · iapply (cred_two (F := F) (barCell c))
    isplitl [B1]; · iapply (hb true); iexact B1
    iapply (hb false); iexact B2
  isplitl [F1 F2]
  · iapply (cred_two (F := F) (finCell c))
    isplitl [F1]; · iapply (hf true); iexact F1
    iapply (hf false); iexact F2
  iapply hs; iexact HS

/-! ## What a device carries from launch to its kernel -/

section Carry

variable (I : Inputs F) (c : Dev nD)

/-- Its barrier position, the facts and tokens of the duties it pays, its credit. -/
def rest : sProp 𝕄 :=
  iprop(atPos ER (barCell c) 0 ∅ 0 ∗ (both fun x => reached ER (barCell (prv x c)) 0) ∗ mine c ∗ credits c)

/-- From launch: with the right to open its own semaphores. -/
def carried : sProp 𝕄 :=
  iprop((∃ K : GSem nD τ sig → ℕ, AllInv I K) ∗ (bigSep Finset.univ fun k : SK => openTok ER ((c : Thread nD τ), osem k)) ∗ rest c)

/-- Once they are open. -/
def entered : sProp 𝕄 :=
  iprop((∃ K : GSem nD τ sig → ℕ, AllInv I K) ∗ levAts L lv
    ∗ (bigSep Finset.univ fun k : SK => iprop(atPos ER ((c : Thread nD τ), osem k) 0 ∅ 0 ∗ reached ER ((c : Thread nD τ), osem k) 0)) ∗ rest c)

/-- What the launch hands a device, its semaphores at zero and the levels give what its kernel enters with. -/
theorem opening : iprop(carried I c ∗ Pipeline.ownSems0 osem c ∗ levAts L lv) ⊢ (|={Set.univ}=> entered I c : sProp 𝕄) := by
  unfold carried entered Pipeline.ownSems0
  iintro ⟨⟨⟨%K, #HI⟩, Ho, Hr⟩, Hs, #Hlev⟩
  have hinv : (AllInv I K : sProp 𝕄) ⊢ bigSep Finset.univ fun k : SK => cellInv ER (Rd I) (K ((c : Thread nD τ), osem k)) ((c : Thread nD τ), osem k) := by
    have h := bigSep_with_persistent (S := (Finset.univ : Finset SK)) (R := (AllInv I K : sProp 𝕄)) (Φ := fun _ => (BI.emp : sProp 𝕄))
      (Ψ := fun k => cellInv ER (Rd I) (K ((c : Thread nD τ), osem k)) ((c : Thread nD τ), osem k)) fun k _ => by
        iintro ⟨H, -⟩; iapply (inv_own I K c k); iexact H
    iintro #H
    iapply h
    isplitr; · iexact H
    rw [BI.bigSep_emp_const]
    iempintro
  ihave Hi := hinv $$ HI
  imod (Rounds.cells_open ER (Rd I) (Finset.univ : Finset SK) (fun k => ((c : Thread nD τ), osem k)) (fun k => K ((c : Thread nD τ), osem k))
    (fun k _ => Set.mem_univ _)) $$ [Hi Ho Hs] with Ha
  · isplitl [Hi Ho]
    · rw [bigSep_sep']
      isplitl [Hi]; · iexact Hi
      iexact Ho
    iexact Hs
  imodintro
  isplitr; · iexists K; iexact HI
  isplitr; · iexact Hlev
  isplitl [Ha]; · iexact Ha
  iexact Hr

end Carry

end Cert.Ring

end
-- ==== Proof.Edges.lean ====
/-
Between the launch's terms and the body's: what a device enters its kernel with, as the body takes it, and what
the body leaves, as the launch takes it back.
-/
module

public import proofs.«01_k».proof.Proof.Ghost

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Enter

variable (c : Dev nD)

/-- One lane's share of what the launch handed over. -/
theorem lane_enter (x j : Bool) :
    iprop((∃ X, slotOwn c x j 0 fullShare X) ∗ (bigSep (Finset.range 15) fun h => atPos ER (sendCell c x j h) 0 ∅ 0)
      ∗ (bigSep (Finset.range 15) fun h => reached ER (sendCell c x j h) 0)
      ∗ (bigSep (Finset.range 15) fun h => atPos ER (recvCell c x j h) 0 ∅ 0)
      ∗ (bigSep (Finset.range 15) fun h => dutyTok ER (sendCell c x j h) 0 false)
      ∗ (bigSep (Finset.range 15) fun h => dutyTok ER (recvCell (nxt x c) x j h) 0 false)
      ∗ (bigSep (Finset.range 15) fun h => cred (tallyAt (recvCell c x j h) () N)) ∗ ∃ B, lane c x j B)
    ⊢ (lanePre c x j : sProp 𝕄) := by
  unfold lanePre sendPre recvRes
  simp only [bigSep_sep' (Finset.range 15)]
  iintro ⟨Hs, H1, H2, H3, H4, H5, H6, HB⟩
  isplitl [Hs]; · iexact Hs
  isplitl [H1 H2 H4 H5]
  · isplitl [H4]; · iexact H4
    isplitl [H2]; · iexact H2
    isplitl [H1]; · iexact H1
    iexact H5
  isplitl [H3 H6]
  · isplitl [H6]; · iexact H6
    iexact H3
  iexact HB

/-- What a device gives the neighbour that sends to it. -/
theorem pay_enter (x : Bool) :
    iprop((bigSep (Finset.range 15) fun h => iprop(∃ X, slotOwn c x false (h + 1) fullShare X))
      ∗ (bigSep (Finset.range 15) fun h => iprop(∃ X, slotOwn c x true (h + 1) fullShare X))
      ∗ (bigSep (Finset.range 15) fun h => reached ER (recvCell c x false h) 0)
      ∗ (bigSep (Finset.range 15) fun h => reached ER (recvCell c x true h) 0) ∗ reached ER (finCell c) 0)
    ⊢ (barPay (prv x c) x : sProp 𝕄) := by
  unfold barPay
  rw [nxt_prv]
  unfold both
  simp only [bigSep_sep' (Finset.range 15)]
  iintro ⟨H1, H2, H3, H4, H5⟩
  isplitr [H5]
  · isplitl [H1 H3]
    · isplitl [H1]; · iexact H1
      iexact H3
    isplitl [H2]; · iexact H2
    iexact H4
  iexact H5

/-- A chain's buffer, as its two sub-blocks' first slots and their other slots. -/
theorem kv_enter (x : Bool) (X : Vec F S16x2x2x4x64x256 .bf16) :
    (owns (c : Thread nD τ) (kvM x) fullShare X : sProp 𝕄)
      ⊢ iprop(((∃ Y, slotOwn c x false 0 fullShare Y) ∗ bigSep (Finset.range 15) fun h => iprop(∃ X, slotOwn c x false (h + 1) fullShare X))
        ∗ ((∃ Y, slotOwn c x true 0 fullShare Y) ∗ bigSep (Finset.range 15) fun h => iprop(∃ X, slotOwn c x true (h + 1) fullShare X))) :=
  (kv_split c x X).trans (Entails.of_eq (congrArg₂ (fun A B => iprop(A ∗ B))
    (bigSep_shift 15 fun s => iprop(∃ Y, slotOwn c x false s fullShare Y)) (bigSep_shift 15 fun s => iprop(∃ Y, slotOwn c x true s fullShare Y))))

/-- What a device enters with makes what its kernel starts with. -/
theorem enter :
    iprop((bigSep Finset.univ fun k : SK => iprop(atPos ER ((c : Thread nD τ), osem k) 0 ∅ 0 ∗ reached ER ((c : Thread nD τ), osem k) 0))
      ∗ rest c ∗ Pipeline.scopedRest spec0 c ∗ ∃ W, owes (c : Thread nD τ) (O₀ c) W)
    ⊢ (runPre c : sProp 𝕄) := by
  rw [scopedRest0_eq, family fun sm => iprop(atPos ER ((c : Thread nD τ), sm) 0 ∅ 0 ∗ reached ER ((c : Thread nD τ), sm) 0)]
  unfold rest mine credits runPre all4 both barRes
  simp only [bigSep_sep' (Finset.range 15)]
  iintro ⟨⟨⟨HaF, #HrF⟩, ⟨⟨S1, R1⟩, ⟨S2, R2⟩, ⟨S3, R3⟩, ⟨S4, R4⟩⟩, ⟨⟨V1, #Q1⟩, ⟨V2, #Q2⟩, ⟨V3, #Q3⟩, ⟨V4, #Q4⟩⟩⟩,
    ⟨HaB, ⟨HrB1, HrB2⟩, ⟨⟨TB1, TB2⟩, ⟨TF1, TF2⟩, ⟨TS1, TS2, TS3, TS4⟩, ⟨TV1, TV2, TV3, TV4⟩⟩, CB, CF, ⟨C1, C2, C3, C4⟩⟩,
    ⟨⟨%f0, P0⟩, ⟨%f1, P1⟩, ⟨%f2, P2⟩, ⟨%f3, P3⟩, ⟨%f4, P4⟩⟩, HO⟩
  ihave K0 := ((Entails.of_eq (owns_whole (c : Thread nD τ) cc0_scratch0 fullShare f0).symm).trans (kv_enter c false f0)) $$ P0
  ihave K1 := ((Entails.of_eq (owns_whole (c : Thread nD τ) cc0_scratch1 fullShare f1).symm).trans (kv_enter c true f1)) $$ P1
  icases K0 with ⟨⟨X1, Y1⟩, ⟨X2, Y2⟩⟩
  icases K1 with ⟨⟨X3, Y3⟩, ⟨X4, Y4⟩⟩
  ihave HL := (lanes_split c f3 f4 f2) $$ [P2 P3 P4]
  · isplitl [P3]; · iapply (Entails.of_eq (owns_whole (c : Thread nD τ) cc0_scratch3 fullShare f3).symm); iexact P3
    isplitl [P4]; · iapply (Entails.of_eq (owns_whole (c : Thread nD τ) cc0_scratch4 fullShare f4).symm); iexact P4
    iapply (Entails.of_eq (owns_whole (c : Thread nD τ) cc0_scratch2 fullShare f2).symm); iexact P2
  unfold all4
  icases HL with ⟨L1, L2, L3, L4⟩
  isplitl [X1 X2 X3 X4 S1 S2 S3 S4 R1 R2 R3 R4 V1 V2 V3 V4 TS1 TS2 TS3 TS4 TV1 TV2 TV3 TV4 C1 C2 C3 C4 L1 L2 L3 L4]
  · isplitl [X1 S1 R1 V1 TS1 TV1 C1 L1]
    · iapply (lane_enter c false false)
      isplitl [X1]; · iexact X1
      isplitl [S1]; · iexact S1
      isplitl [R1]; · iexact R1
      isplitl [V1]; · iexact V1
      isplitl [TS1]; · iexact TS1
      isplitl [TV1]; · iexact TV1
      isplitl [C1]; · iexact C1
      iexact L1
    isplitl [X2 S2 R2 V2 TS2 TV2 C2 L2]
    · iapply (lane_enter c false true)
      isplitl [X2]; · iexact X2
      isplitl [S2]; · iexact S2
      isplitl [R2]; · iexact R2
      isplitl [V2]; · iexact V2
      isplitl [TS2]; · iexact TS2
      isplitl [TV2]; · iexact TV2
      isplitl [C2]; · iexact C2
      iexact L2
    isplitl [X3 S3 R3 V3 TS3 TV3 C3 L3]
    · iapply (lane_enter c true false)
      isplitl [X3]; · iexact X3
      isplitl [S3]; · iexact S3
      isplitl [R3]; · iexact R3
      isplitl [V3]; · iexact V3
      isplitl [TS3]; · iexact TS3
      isplitl [TV3]; · iexact TV3
      isplitl [C3]; · iexact C3
      iexact L3
    iapply (lane_enter c true true)
    isplitl [X4]; · iexact X4
    isplitl [S4]; · iexact S4
    isplitl [R4]; · iexact R4
    isplitl [V4]; · iexact V4
    isplitl [TS4]; · iexact TS4
    isplitl [TV4]; · iexact TV4
    isplitl [C4]; · iexact C4
    iexact L4
  isplitl [HrB1 HrB2 TB1 TB2]
  · isplitl [TB1 HrB1]
    · isplitl [TB1]; · iexact TB1
      iexact HrB1
    isplitl [TB2]; · iexact TB2
    iexact HrB2
  isplitl [Y1 Y2 Y3 Y4]
  · isplitl [Y1 Y2]
    · iapply (pay_enter c false)
      isplitl [Y1]; · iexact Y1
      isplitl [Y2]; · iexact Y2
      isplitr; · iexact Q1
      isplitr; · iexact Q2
      iexact HrF
    iapply (pay_enter c true)
    isplitl [Y3]; · iexact Y3
    isplitl [Y4]; · iexact Y4
    isplitr; · iexact Q3
    isplitr; · iexact Q4
    iexact HrF
  isplitl [TF1 TF2]
  · isplitl [TF1]; · iexact TF1
    iexact TF2
  isplitl [CB HaB]
  · isplitl [CB]; · iexact CB
    iexact HaB
  isplitl [CF HaF]
  · isplitl [CF]; · iexact CF
    iexact HaF
  iexact HO

end Enter

section Leave

variable [∀ e, Nonempty (Elt F e)] (I : Inputs F) (c : Dev nD)

/-- What the kernel leaves, as the launch takes it back: the counters at zero, the buffers whole. -/
theorem leave :
    (iprop(all4 (fun x j => iprop(kept I c x j ∗ drain I c x j 15))
      ∗ (owns (c : Thread nD τ) (Memref.whole cc0_scratch3) fullShare (join2 fun x j => (blk I x j c 15).m)
        ∗ owns (c : Thread nD τ) (Memref.whole cc0_scratch4) fullShare (join2 fun x j => (blk I x j c 15).l)
        ∗ owns (c : Thread nD τ) (Memref.whole cc0_scratch2) fullShare (join3 fun x j => (blk I x j c 15).o))
      ∗ semVal (finCell c) 0) : sProp 𝕄)
    ⊢ iprop(Pipeline.ownSems0 osem c ∗ Pipeline.scopedRest spec0 c) := by
  unfold Pipeline.ownSems0
  rw [scopedRest0_eq, family fun sm => semVal ((c : Thread nD τ), sm) 0]
  unfold all4
  iintro ⟨⟨A1, A2, A3, A4⟩, ⟨P3, P4, P2⟩, HF⟩
  ihave B1 := (lane_slots c I false false) $$ A1
  icases B1 with ⟨K1, V1, S1⟩
  ihave B2 := (lane_slots c I false true) $$ A2
  icases B2 with ⟨K2, V2, S2⟩
  ihave B3 := (lane_slots c I true false) $$ A3
  icases B3 with ⟨K3, V3, S3⟩
  ihave B4 := (lane_slots c I true true) $$ A4
  icases B4 with ⟨K4, V4, S4⟩
  ihave P0 := (kv_join c false fun s j => slotV I false j s c) $$ [K1 K2]
  · isplitl [K1]; · iexact K1
    iexact K2
  ihave P1 := (kv_join c true fun s j => slotV I true j s c) $$ [K3 K4]
  · isplitl [K3]; · iexact K3
    iexact K4
  isplitl [HF V1 V2 V3 V4 S1 S2 S3 S4]
  · isplitl [HF]; · iexact HF
    isplitl [S1 S2 S3 S4]
    · isplitl [S1]; · iexact S1
      isplitl [S2]; · iexact S2
      isplitl [S3]; · iexact S3
      iexact S4
    isplitl [V1]; · iexact V1
    isplitl [V2]; · iexact V2
    isplitl [V3]; · iexact V3
    iexact V4
  isplitl [P0]; · iexists _; iapply (Entails.of_eq (owns_whole (c : Thread nD τ) cc0_scratch0 fullShare _)); iexact P0
  isplitl [P1]; · iexists _; iapply (Entails.of_eq (owns_whole (c : Thread nD τ) cc0_scratch1 fullShare _)); iexact P1
  isplitl [P2]; · iexists _; iapply (Entails.of_eq (owns_whole (c : Thread nD τ) cc0_scratch2 fullShare _)); iexact P2
  isplitl [P3]; · iexists _; iapply (Entails.of_eq (owns_whole (c : Thread nD τ) cc0_scratch3 fullShare _)); iexact P3
  iexists _; iapply (Entails.of_eq (owns_whole (c : Thread nD τ) cc0_scratch4 fullShare _)); iexact P4

end Leave

end Cert.Ring

end
-- ==== Proof.Call.lean ====
/-
The one call of the kernel as the pipeline runs it: the operands its windows stage, the contents it leaves, and the
body's obligation, met by the kernel's run.
-/
module

public import proofs.«01_k».proof.Proof.Edges
public import proofs.«01_k».proof.Proof.Gen.KernelIdeal.Frame
public import Idealize.ShloMosaic.Lib.Pipeline.Value

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg BodyObligation cellOf)

variable (m : (ℓ : Loc nD τ sig) → Buf (Elt F) ℓ) (c : Dev nD)

/-- The queries, keys and values each device stages: what the host operations made of its arguments. -/
def ins : Inputs F := ⟨fun c => V m c main_v3, fun c => V m c main_v6, fun c => V m c main_v9⟩

/-- Window 0's block is its whole array: an index of the block is that index of the array. -/
theorem emb0 (t : Fin cfg0.N) (j : S16x64x256.Idx) : ((cfg0.win 0).blk t).view.emb j = j := by
  funext a; apply Fin.ext
  match a with
  | ⟨0, _⟩ => show 0 * 16 + 1 * (j 0).val = (j 0).val; omega
  | ⟨1, _⟩ => show 0 * 64 + 1 * (j 1).val = (j 1).val; omega
  | ⟨2, _⟩ => show 0 * 256 + 1 * (j 2).val = (j 2).val; omega

/-- Window 1's block is its whole array: an index of the block is that index of the array. -/
theorem emb1 (t : Fin cfg0.N) (j : S16x64x256.Idx) : ((cfg0.win 1).blk t).view.emb j = j := by
  funext a; apply Fin.ext
  match a with
  | ⟨0, _⟩ => show 0 * 16 + 1 * (j 0).val = (j 0).val; omega
  | ⟨1, _⟩ => show 0 * 64 + 1 * (j 1).val = (j 1).val; omega
  | ⟨2, _⟩ => show 0 * 256 + 1 * (j 2).val = (j 2).val; omega

/-- Window 2's block is its whole array: an index of the block is that index of the array. -/
theorem emb2 (t : Fin cfg0.N) (j : S16x64x256.Idx) : ((cfg0.win 2).blk t).view.emb j = j := by
  funext a; apply Fin.ext
  match a with
  | ⟨0, _⟩ => show 0 * 16 + 1 * (j 0).val = (j 0).val; omega
  | ⟨1, _⟩ => show 0 * 64 + 1 * (j 1).val = (j 1).val; omega
  | ⟨2, _⟩ => show 0 * 256 + 1 * (j 2).val = (j 2).val; omega

/-- Window 3's block is its whole array: an index of the block is that index of the array. -/
theorem emb3 (t : Fin cfg0.N) (j : S16x64x256.Idx) : ((cfg0.win 3).blk t).view.emb j = j := by
  funext a; apply Fin.ext
  match a with
  | ⟨0, _⟩ => show 0 * 16 + 1 * (j 0).val = (j 0).val; omega
  | ⟨1, _⟩ => show 0 * 64 + 1 * (j 1).val = (j 1).val; omega
  | ⟨2, _⟩ => show 0 * 256 + 1 * (j 2).val = (j 2).val; omega

/-- So what window 0 stages is its array. -/
theorem iblk0 (t : Fin cfg0.N) : iblk m c 0 t = (ins m).q c := by
  funext j; show V m c main_v3 (((cfg0.win 0).blk t).view.emb j) = V m c main_v3 j; rw [emb0]

/-- So what window 1 stages is its array. -/
theorem iblk1 (t : Fin cfg0.N) : iblk m c 1 t = (ins m).k c := by
  funext j; show V m c main_v6 (((cfg0.win 1).blk t).view.emb j) = V m c main_v6 j; rw [emb1]

/-- So what window 2 stages is its array. -/
theorem iblk2 (t : Fin cfg0.N) : iblk m c 2 t = (ins m).v c := by
  funext j; show V m c main_v9 (((cfg0.win 2).blk t).view.emb j) = V m c main_v9 j; rw [emb2]

/-- The registers of the device's random generator, at some state. -/
abbrev regs : sProp 𝕄 := iprop(∃ r, prngReg c r)

/-- What the call starts with besides its windows, -/
def phi0 : sProp 𝕄 := iprop(entered (ins m) c ∗ Pipeline.scopedRest spec0 c ∗ regs c)
/-- and what it ends with. -/
def phi1 : sProp 𝕄 := iprop(semVal (barCell c) 0 ∗ Pipeline.ownSems0 osem c ∗ Pipeline.scopedRest spec0 c ∗ regs c)

/-- The call's proof data: its arrays as the host operations left them, the operands' blocks kept, the result's block
    at the attention's value, the tallies owed before and after. -/
def dat : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outV (ins m) c
    | ⟨_ + 4, h⟩ => absurd h (Nat.not_lt.2 (Nat.le_add_left _ _))
  Φ t := if t.val = 0 then phi0 m c else phi1 c
  q _ := fullShare
  owed t := if t.val = 0 then O₀ c else 0

/-- Window 0 is found at its block. -/
theorem before0 (t : Fin cfg0.N) (d) : (dat m c).before 0 t d = iblk m c 0 t :=
  ((dat m c).before_in_eq_fetched 0 rfl (fun _ => rfl) (fun _ _ _ => rfl) (fun _ => rfl) t d).trans rfl

/-- Window 1 is found at its block. -/
theorem before1 (t : Fin cfg0.N) (d) : (dat m c).before 1 t d = iblk m c 1 t :=
  ((dat m c).before_in_eq_fetched 1 rfl (fun _ => rfl) (fun _ _ _ => rfl) (fun _ => rfl) t d).trans rfl

/-- Window 2 is found at its block. -/
theorem before2 (t : Fin cfg0.N) (d) : (dat m c).before 2 t d = iblk m c 2 t :=
  ((dat m c).before_in_eq_fetched 2 rfl (fun _ => rfl) (fun _ _ _ => rfl) (fun _ => rfl) t d).trans rfl

/-- The owed tallies as the pipeline keeps them, from a bare record, -/
theorem owesAt_in (d : Dat τ (Elt F) Unit ℕ UU ℕ cfg0 c) (t : Fin (cfg0.N + 1)) (hr : d.recorded t = Set.univ) (W : Waits sig Unit) :
    (owes (c : Thread nD τ) (d.owed t) W : sProp 𝕄) ⊢ d.owesAt () t := by
  unfold Dat.owesAt Pipeline.owesWithin Dat.bound
  rw [hr]
  iintro H
  iexists W
  isplitr; · ipureintro; exact fun _ _ => Or.inl trivial
  iexact H
/-- and back. -/
theorem owesAt_out (d : Dat τ (Elt F) Unit ℕ UU ℕ cfg0 c) (t : Fin (cfg0.N + 1)) :
    (d.owesAt () t : sProp 𝕄) ⊢ iprop(∃ W, owes (c : Thread nD τ) (d.owed t) W) := by
  unfold Dat.owesAt Pipeline.owesWithin
  iintro ⟨%W, -, H⟩
  iexists W; iexact H

variable [∀ e, Nonempty (Elt F e)]

/-- The body's obligation at the one grid point. -/
theorem obligation : BodyObligation (dat m c) defs₀ 𝒱₀ () Set.univ := fun t => by
  obtain rfl := fin_N0 t
  rw [bigSep_W0, bigSep_W0]
  rw [show (dat m c).Φ t0_0.castSucc = phi0 m c from rfl, show (dat m c).Φ t0_0.succ = phi1 c from rfl]
  unfold phi0 phi1 entered
  iintro ⟨⟨⟨⟨%K, HI⟩, Hlev, Hk, HR⟩, HS, Hreg⟩, HO, ⟨%d0, H0⟩, ⟨%d1, H1⟩, ⟨%d2, H2⟩, ⟨%d3, H3⟩⟩
  ihave HO1 := (owesAt_out c (dat m c) _) $$ HO
  ihave H0 := (Entails.of_eq (congrArg (owns (c : Thread nD τ) (st0_0 t0_0) fullShare) ((before0 m c t0_0 d0).trans (iblk0 m c t0_0)))) $$ H0
  ihave H1 := (Entails.of_eq (congrArg (owns (c : Thread nD τ) (st0_1 t0_0) fullShare) ((before1 m c t0_0 d1).trans (iblk1 m c t0_0)))) $$ H1
  ihave H2 := (Entails.of_eq (congrArg (owns (c : Thread nD τ) (st0_2 t0_0) fullShare) ((before2 m c t0_0 d2).trans (iblk2 m c t0_0)))) $$ H2
  iapply wp_wand $$ [HI Hlev Hk HR HS HO1 H0 H1 H2 H3]
  · iapply (run (ins m) K c (st0_0 t0_0) (hstage0_0 0) (st0_1 t0_0) (hstage0_1 0) (st0_2 t0_0) (hstage0_2 0) (st0_3 t0_0) (hstage0_3 0) ((dat m c).before 3 t0_0 d3))
    isplitl [HI]; · iexact HI
    isplitl [Hlev]; · iexact Hlev
    isplitl [Hk HR HS HO1]
    · iapply (enter c)
      isplitl [Hk]; · iexact Hk
      isplitl [HR]; · iexact HR
      isplitl [HS]; · iexact HS
      iexact HO1
    isplitl [H0]; · iexact H0
    isplitl [H1]; · iexact H1
    isplitl [H2]; · iexact H2
    iexact H3
  iintro %_ ⟨HP, H0, H1, H2, H3⟩
  unfold runPost
  icases HP with ⟨HA, HB, Hb, Hf, ⟨%W, HO⟩⟩
  ihave HL := (leave (ins m) c) $$ [HA HB Hf]
  · isplitl [HA]; · iexact HA
    isplitl [HB]; · iexact HB
    iexact Hf
  icases HL with ⟨Hos, HS⟩
  isplitl [Hb Hos HS Hreg]
  · isplitl [Hb]; · iexact Hb
    isplitl [Hos]; · iexact Hos
    isplitl [HS]; · iexact HS
    iexact Hreg
  isplitl [HO]; · iapply (owesAt_in c (dat m c) t0_0.succ rfl W); iexact HO
  isplitl [H0]; · iapply (Entails.of_eq (congrArg (owns (c : Thread nD τ) (st0_0 t0_0) fullShare) (iblk0 m c t0_0)).symm); iexact H0
  isplitl [H1]; · iapply (Entails.of_eq (congrArg (owns (c : Thread nD τ) (st0_1 t0_0) fullShare) (iblk1 m c t0_0)).symm); iexact H1
  isplitl [H2]; · iapply (Entails.of_eq (congrArg (owns (c : Thread nD τ) (st0_2 t0_0) fullShare) (iblk2 m c t0_0)).symm); iexact H2
  iexact H3

/-- The result's array after the call: the attention's value. -/
theorem final3 : (dat m c).arrAt 3 cfg0.N = outV (ins m) c :=
  (dat m c).arrAt_eq_of_cover 3 (outV (ins m) c)
    (fun t _ => by
      funext j
      show outV (ins m) c j = outV (ins m) c (((cfg0.win 3).blk t).view.emb j)
      rw [emb3])
    (fun i => ⟨t0_0, flush0_3 _, by
      have h := ((cfg0.win 3).blk t0_0).view.emb_mem_set i; rwa [emb3] at h⟩)

end Cert.Ring

end
-- ==== Proof.Segments.lean ====
/-
The launch: the region and the host operations around it chained into the whole program, the ghost state made for all
devices at once, and the run of the program on the sixteen devices.
-/
module

public import proofs.«01_k».proof.Proof.Call
public import Idealize.ShloMosaic.Lib.Pipeline.RegionTalk
public import Idealize.ShloMosaic.Lib.StableHlo

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg BodyObligation cellOf)

/-! ## Facts of the semaphores -/

/-- The barrier's semaphore is the only one that outlives the kernel. -/
theorem unscoped_eq : ∀ sm : SemLoc sig, sm.isScoped .tc = false → sm = barS := by decide +kernel

/-- The barrier's semaphore outlives the call. -/
theorem bar_unscoped : SemLoc.isScoped .tc (barS : SemLoc sig) = false := by decide

/-- A window's semaphore is none of the protocol's. -/
theorem window_kind : ∀ (w : Fin 4) (s : Fin (spec0 w).nbuf), kindOf (.dma ((spec0 w).sem s)) = .none := by decide

/-- The kernel's own semaphores: distinct, the kernel's, none a window's. -/
theorem ownFacts : Pipeline.OwnSemFacts spec0 osem where
  isScoped k := by
    cases h : (osem k).isScoped .tc
    · exact absurd (unscoped_eq _ h) (osem_ne_bar k)
    · rfl
  inj := osem_inj
  disj k w s h := by
    have hk := (kind_osem k).symm.trans (congrArg kindOf h)
    rw [window_kind w s] at hk
    rcases k with _ | ⟨r, x, j, h1⟩
    · exact Kind.noConfusion hk
    · cases r <;> exact Kind.noConfusion hk

/-- The semaphores of the pipeline's windows have level zero. -/
theorem window_level (w : Fin 4) (s : Fin (spec0 w).nbuf) (c : Dev nD) : lv ((c : Thread nD τ), .dma ((spec0 w).sem s)) () = 0 := by
  unfold lv; rw [window_kind w s]

/-- All that a device owes at the start lies above level zero. -/
theorem above_start (c : Dev nD) : Above 0 (O₀ c) :=
  (above_from c (by omega) (by omega)).add
    ((Above.tally (by rw [lv_bar]; omega)).add (Above.tally (by rw [lv_bar]; omega)))

/-- The one semaphore that outlives the call is the barrier's. -/
theorem unscopedSems0_eq (c : Dev nD) : (unscopedSems0 c : sProp 𝕄) = semVal (barCell c) 0 := by
  unfold unscopedSems0
  rw [show (Finset.univ.filter fun sm : SemLoc sig => ¬ sm.isScoped .tc) = {(barS : SemLoc sig)} from by
    ext sm
    simp only [Finset.mem_filter, Finset.mem_univ, true_and, Finset.mem_singleton, Bool.not_eq_true]
    exact ⟨fun h => unscoped_eq sm h, fun h => by rw [h]; exact bar_unscoped⟩, BI.bigSep_singleton]

/-! ## The region -/

variable (m : (ℓ : Loc nD τ sig) → Buf (Elt F) ℓ) (ρ : Dev nD → PrngReg)

abbrev adm : (p : Fin 1) → (pcfgs (F := F) p).Adm := fun p => (cfgs p).toPCfg_adm
/-- The call's data, as the launch takes it. -/
def pdats : (p : Fin 1) → (c : Dev nD) → Dat τ (Elt F) Unit ℕ UU ℕ (Pipeline.pin (pcfgs (F := F)) adm p) c := fun _ c => dat m c

/-- A device's buffers that outlive the kernel. -/
abbrev bufs : Finset (DevRef τ sig) := Pipeline.ucRefs τ sig
abbrev arrs : Finset (DevRef τ sig) := Pipeline.arrRefs (τ := τ) spec0

/-- The call's arrays are among the buffers. -/
theorem arrs_sub : arrs ⊆ bufs := Pipeline.arrRefs_sub_ucRefs spec0 winFacts0.arr_unscoped

/-- A device's buffers as launched, as the call finds them, as it leaves them, and at the end. -/
abbrev B0 (c : Dev nD) : Valuation τ sig (Elt F) := fun b => m (c, b)
/-- The buffers before the call. -/
def B1 (c : Dev nD) : Valuation τ sig (Elt F) := StableHlo.after hostOps0 (B0 m c)
/-- The buffers after it: its result is in place. -/
def B2 (c : Dev nD) : Valuation τ sig (Elt F) := Function.update (B1 m c) (Proc.devRef .tc main_v10) (outV (ins m) c)
/-- The buffers at the end. -/
def B3 (c : Dev nD) : Valuation τ sig (Elt F) := StableHlo.after hostOps1 (B2 m c)

/-- The buffers before the call are those the generated frame names. -/
theorem B1_eq (c : Dev nD) : B1 m c = V0 m c := rfl

/-- The call changes its result's buffer only. -/
theorem B2_of_ne (c : Dev nD) {b : DevRef τ sig} (h : b ≠ Proc.devRef .tc main_v10) : B2 m c b = B1 m c b :=
  Function.update_of_ne h _ _
/-- The call's result. -/
theorem B2_result (c : Dev nD) : B2 m c (Proc.devRef .tc main_v10) = outV (ins m) c := Function.update_self ..

section Region

variable [∀ e, Nonempty (Elt F e)]

/-- What a device owes when the call begins. -/
theorem dat_owed_first (c : Dev nD) : (pdats (F := F) m 0 c).owed 0 = O₀ c := by
  show (if ((0 : Fin (cfg0.N + 1)).val = 0) then O₀ c else 0) = O₀ c; exact if_pos rfl
/-- A device owes nothing when the call ends. -/
theorem dat_owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

/-- The pipeline's cells are named once each. -/
theorem cellOf_inj' : Function.Injective (Pipeline.cellOf (nD := nD) (τ := τ) (Pipeline.pin (pcfgs (F := F)) adm)) := Gen.cellOf_inj

/-- Whatever a device owes during the call has a level above zero. -/
theorem owed_cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · have := above_start c g i h
    exact ⟨by unfold L; rw [if_pos this.1]; exact Finset.mem_singleton_self _, this.2⟩
  · exact absurd h (Nat.lt_irrefl 0)

/-- The device's barrier counter, at zero. -/
abbrev quiet (c : Dev nD) : sProp 𝕄 := semVal (barCell c) 0

/-- What the launch gives the call is what its body enters with. -/
theorem region_in (c : Dev nD) :
    iprop(Pipeline.scopedRest (Pipeline.pin (pcfgs (F := F)) adm 0).spec c ∗ (∃ r, prngReg c r) ∗ StableHlo.held (c.tc : Thread nD τ) ∅ (B1 m c) ∗ entered (ins m) c)
      ⊢ (pdats m 0 c).Φ 0 := by
  rw [show (pdats m 0 c).Φ 0 = phi0 m c from rfl]
  unfold phi0
  iintro ⟨Hs, Hp, -, HE⟩
  isplitl [HE]; · iexact HE
  isplitl [Hs]; · iexact Hs
  iexact Hp

/-- Holding no buffers is nothing. -/
theorem held_empty (c : Dev nD) (W : Valuation τ sig (Elt F)) : (StableHlo.held (c.tc : Thread nD τ) ∅ W : sProp 𝕄) = BI.emp := by
  unfold StableHlo.held; exact BI.bigSep_empty

/-- What the body leaves is what the launch takes back. -/
theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (B2 m c)
        ∗ Pipeline.ownSems0 osem c ∗ quiet c) := by
  rw [show (pdats m 0 c).Φ (Fin.last _) = phi1 c from rfl, held_empty]
  unfold phi1
  iintro ⟨Hb, Hos, Hs, Hp⟩
  isplitl [Hs]; · iexact Hs
  isplitl [Hp]; · iexact Hp
  isplitr; · iempintro
  isplitl [Hos]; · iexact Hos
  iexact Hb

/-- The call's arrays end as the buffers after it say. -/
theorem arr_end (c : Dev nD) (w : Fin 4) : (dat m c).arrAt w cfg0.N = B2 m c (Proc.devRef .tc (Pipeline.arrRef spec0 w)) := by
  match w with
  | ⟨0, _⟩ => rw [B2_of_ne m c (show Proc.devRef .tc (Pipeline.arrRef spec0 0) ≠ Proc.devRef .tc main_v10 from StableHlo.devRef_ne_of_ne (by decide))]; exact (dat m c).arrAt_in 0 rfl _
  | ⟨1, _⟩ => rw [B2_of_ne m c (show Proc.devRef .tc (Pipeline.arrRef spec0 1) ≠ Proc.devRef .tc main_v10 from StableHlo.devRef_ne_of_ne (by decide))]; exact (dat m c).arrAt_in 1 rfl _
  | ⟨2, _⟩ => rw [B2_of_ne m c (show Proc.devRef .tc (Pipeline.arrRef spec0 2) ≠ Proc.devRef .tc main_v10 from StableHlo.devRef_ne_of_ne (by decide))]; exact (dat m c).arrAt_in 2 rfl _
  | ⟨3, _⟩ => exact (final3 m c).trans (B2_result m c).symm

/-- The result's buffer is one of the call's arrays. -/
theorem result_mem : Proc.devRef .tc main_v10 ∈ arrs := by
  unfold arrs Pipeline.arrRefs
  exact Finset.mem_map.mpr ⟨main_v10, Finset.mem_image.mpr ⟨3, Finset.mem_univ _, rfl⟩, rfl⟩

set_option backward.isDefEq.respectTransparency.types false in
/-- The region of the one kernel call. -/
def region : Pipeline.RegionSeg (pcfgs (F := F)) adm (pdats m) () defs₀ 𝒱₀ L lv 0 :=
  Pipeline.RegionSeg.ofTalk (pcfgs (F := F)) adm (pdats m) () defs₀ 𝒱₀ L lv 0 osem ownFacts
    ∅ (bufs \ arrs) (Finset.empty_subset _) launch0.toP rfl (fun c => (obligation m c).loose)
    (fun _ => 0) O₀ (fun c => (dat_owed_first m c).trans (zero_add _).symm) (dat_owed_last m) (fun _ => rfl)
    (fun c w => ite_self _)
    (B1 m) (B2 m) (fun c b hb => B2_of_ne m c fun e => (Finset.mem_sdiff.mp (Finset.mem_sdiff.mp hb).1).2 (e ▸ result_mem))
    (carried (ins m)) quiet (entered (ins m)) quiet (fun c => opening (ins m) c) (region_in m) (region_out m)
    (fun c => by iintro H; imodintro; iexact H)
    (fun _ => 0)
    ⟨fun c w s => by rw [L_tc]; exact Finset.mem_singleton_self _, fun c w s => (window_level w s c).le, fun c t g i h => owed_cut m c t g i h⟩
    (fun _ => iprop(emp))
    (fun _ w => rfl) (fun c w => arr_end m c w)

/-! ## The whole program -/

/-- What rides beside the buffers up to the call, -/
def R0 (c : Dev nD) : sProp 𝕄 := iprop(carried (ins m) c ∗ regs c ∗ ∃ W, owes (c : Thread nD τ) (O₀ c) W)
/-- and after it. -/
def R1 (c : Dev nD) : sProp 𝕄 := iprop(quiet c ∗ ∃ W, owes (c : Thread nD τ) (0 : CellTallies nD τ sig Unit) W)

/-- The host operations before the call. -/
def host0 : Pipeline.HostSeg (Name := ℕ) (U := UU) (pcfgs (F := F)) defs₀ 𝒱₀ L lv :=
  Pipeline.HostSeg.ofOps _ _ _ _ _ bufs hostOps0 (fun op h => Pipeline.sub_ucRefs op ((List.forall_iff_forall_mem.mp hostOps0_sub) op h))
    (fun op h => (List.forall_iff_forall_mem.mp hostOps0_fresh) op h) (B0 m) (R0 m)
/-- The host operations after it. -/
def host1 : Pipeline.HostSeg (Name := ℕ) (U := UU) (pcfgs (F := F)) defs₀ 𝒱₀ L lv :=
  Pipeline.HostSeg.ofOps _ _ _ _ _ bufs hostOps1 (fun op h => Pipeline.sub_ucRefs op ((List.forall_iff_forall_mem.mp hostOps1_sub) op h))
    (fun op h => (List.forall_iff_forall_mem.mp hostOps1_fresh) op h) (B2 m) R1

/-- The buffers before the call hold what the call takes. -/
theorem region_pre (c : Dev nD) : iprop(StableHlo.held (c : Thread nD τ) bufs (B1 m c) ∗ R0 m c) ⊢ (region m).pre c := by
  show _ ⊢ iprop(StableHlo.held (c.tc : Thread nD τ) arrs (B1 m c) ∗ (∃ r, prngReg c r)
    ∗ (StableHlo.held (c.tc : Thread nD τ) (bufs \ arrs) (B1 m c) ∗ emp) ∗ carried (ins m) c ∗ ∃ Wd, owes (c : Thread nD τ) (0 + O₀ c) Wd)
  rw [zero_add, StableHlo.held_sub_split (c.tc : Thread nD τ) arrs_sub (B1 m c)]
  unfold R0
  iintro ⟨⟨Ha, Hr⟩, HK, Hp, HO⟩
  isplitl [Ha]; · iexact Ha
  isplitl [Hp]; · iexact Hp
  isplitl [Hr]
  · isplitl [Hr]; · iexact Hr
    iempintro
  isplitl [HK]; · iexact HK
  iexact HO

/-- What the call leaves makes the buffers after it. -/
theorem region_post (c : Dev nD) : (region m).post c ⊢ iprop(StableHlo.held (c : Thread nD τ) bufs (B2 m c) ∗ R1 c) := by
  show iprop(StableHlo.held (c.tc : Thread nD τ) arrs (B2 m c) ∗ (∃ r, prngReg c r)
    ∗ (StableHlo.held (c.tc : Thread nD τ) (bufs \ arrs) (B2 m c) ∗ emp) ∗ quiet c ∗ ∃ Wd, owes (c : Thread nD τ) (0 : CellTallies nD τ sig Unit) Wd) ⊢ _
  rw [StableHlo.held_sub_split (c.tc : Thread nD τ) arrs_sub (B2 m c)]
  unfold R1
  iintro ⟨Ha, -, ⟨Hr, -⟩, Hb, HO⟩
  isplitl [Ha Hr]
  · isplitl [Ha]; · iexact Ha
    iexact Hr
  isplitl [Hb]; · iexact Hb
  iexact HO

/-- The program's segments. -/
def segs : List (Pipeline.Seg (pcfgs (F := F)) adm (pdats m) () defs₀ 𝒱₀ L lv) := [.host (host0 m), .region (region m), .host (host1 m)]

/-- The program is its segments in a row. -/
theorem main_eq (c : Dev nD) : main (F := F) c = Pipeline.Seg.run (segs m) :=
  main_segs adm (pdats m) () 𝒱₀ L lv (host0 m) (host1 m) (region m) rfl rfl c

end Region

end Cert.Ring

end
-- ==== Proof.Whole.lean ====
/-
The run of the whole program: the launch makes the ghost state of all devices, the segments follow one another, and the
final memory is read off the buffers the devices hold.
-/
module

public import proofs.«01_k».proof.Proof.Segments
public import Idealize.ShloMosaic.Lib.Tactic
public import Idealize.ShloMosaic.Harness.Basic

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable [∀ e, Nonempty (Elt F e)] (m : (ℓ : Loc nD τ sig) → Buf (Elt F) ℓ) (ρ : Dev nD → PrngReg)

/-- The barriers' cells are none of the kernel's own. -/
theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The ghost state the protocol starts from. -/
abbrev seed : sProp 𝕄 := BI.own (ER (launchOf barCells ownCells allToks))

/-- The launch element: the pipeline's at the staging cells, and the protocol's. -/
def u₀ : UU :=
  (initOf (Pipeline.cells (Pipeline.pin (pcfgs (F := F)) adm) cellOf_inj') (Pipeline.launchToks (Pipeline.pin (pcfgs (F := F)) adm) cellOf_inj'),
    launchOf barCells ownCells allToks)

/-- The protocol's part, all of it on device 0 until every device's share is made. -/
def dealt (c : Dev nD) : sProp 𝕄 := if c = 0 then seed else iprop(emp)

/-- What all devices are dealt is the seed. -/
theorem dealt_all : (bigSep Finset.univ dealt : sProp 𝕄) = seed := by
  rw [bigSep_univ_at _ (0 : Dev nD), bigSep_congr (s := Finset.univ.erase (0 : Dev nD)) (Ψ := fun _ => (BI.emp : sProp 𝕄))
      fun c hc => by unfold dealt; rw [if_neg (Finset.ne_of_mem_erase hc)]; rfl, BI.bigSep_emp_const]
  unfold dealt; rw [if_pos rfl]
  exact BI.equiv_iff.mp sep_emp

/-- What every device may consult: the invariants at one choice of names, the barriers' first rounds. -/
def records (κ : GSem nD τ sig → ℕ) : sProp 𝕄 :=
  iprop(AllInv (ins m) κ ∗ bigSep barCells fun g => reached ER g 0)

/-- The records can be used again and again. -/
instance records_persistent (κ : GSem nD τ sig → ℕ) : BI.Persistent (records m κ) := by unfold records; infer_instance

/-- What stays with device `c` of the protocol's state, -/
def own₀ (c : Dev nD) : sProp 𝕄 :=
  iprop(atPos ER (barCell c) 0 ∅ 0 ∗ (bigSep Finset.univ fun k : SK => openTok ER ((c : Thread nD τ), osem k)) ∗ mine c)
/-- and of the launch's own. -/
def own₁ (c : Dev nD) : sProp 𝕄 :=
  iprop(StableHlo.held (c : Thread nD τ) bufs (B0 m c) ∗ credits c ∗ regs c ∗ owes (c : Thread nD τ) (O₀ c) ∅)

abbrev begin (c : Dev nD) : sProp 𝕄 := iprop(StableHlo.held (c : Thread nD τ) bufs (B0 m c) ∗ R0 m c)
abbrev ending (c : Dev nD) : sProp 𝕄 := iprop(StableHlo.held (c : Thread nD τ) bufs (B3 m c) ∗ quiet c)

/-- What a device begins with, from the records and its own share. -/
theorem begin_intro (κ : GSem nD τ sig → ℕ) (c : Dev nD) : iprop(records m κ ∗ (own₀ c ∗ own₁ m c)) ⊢ begin m c := by
  have hr (d : Dev nD) : (bigSep barCells fun g => (reached ER g 0 : sProp 𝕄)) ⊢ reached ER (barCell d) 0 :=
    bigSep_elim (Finset.mem_map_of_mem barEmb (Finset.mem_univ d))
  unfold records own₀ own₁ begin R0 carried rest both
  iintro ⟨⟨#HI, #HR⟩, ⟨HaB, Ho, HT⟩, Hh, Hc, Hp, HO⟩
  isplitl [Hh]; · iexact Hh
  isplitl [HaB Ho HT Hc]
  · isplitr; · iexists κ; iexact HI
    isplitl [Ho]; · iexact Ho
    isplitl [HaB]; · iexact HaB
    isplitr
    · isplitr; · iapply (hr (prv false c)); iexact HR
      iapply (hr (prv true c)); iexact HR
    isplitl [HT]; · iexact HT
    iexact Hc
  isplitl [Hp]; · iexact Hp
  iexists ∅; iexact HO

/-- All devices' first states at once. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ dealt c)) ∗ levAts L lv)
      ⊢ (|={Set.univ}=> bigSep Finset.univ (begin m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ dealt c)
      ⊢ (iprop(own₁ m c ∗ (semVal (barCell c) 0 ∗ dealt c)) : sProp 𝕄) := by
    rw [show unscopedBufs c (fun b => m ((c : Thread nD τ).loc b)) = StableHlo.held (c : Thread nD τ) bufs (B0 m c) from
        Pipeline.unscopedBufs_held (Ix := Unit) (Name := ℕ) (U := UU) (Lvl := ℕ) c (B0 m c),
      unscopedSems0_eq]
    unfold own₁
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [Hp]; · iexists (ρ c); iexact Hp
      iexact HO
    isplitl [Hus]; · iexact Hus
    iexact HG
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ fun k : SK => openTok ER ((c : Thread nD τ), osem k)) :=
    Entails.of_eq (by rw [bigSep_map, bigSep_univ_prod]; rfl)
  have hinv (κ : GSem nD τ sig → ℕ) : (bigSep (barCells ∪ ownCells) fun g => (cellInv ER (Rd (ins m)) (κ g) g : sProp 𝕄)) ⊢ AllInv (ins m) κ :=
    Entails.of_eq (by unfold AllInv; rw [allCells_eq])
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ dealt c))
      ⊢ (bigSep Finset.univ fun c : Dev nD => iprop(own₁ m c ∗ (semVal (barCell c) 0 ∗ dealt c)) : sProp 𝕄) from bigSep_mono fun c _ => hcore c) $$ H
  ihave H2 := Smoke.bigSep_unpair $$ H'; icases H2 with ⟨HB, H3⟩
  ihave H4 := Smoke.bigSep_unpair $$ H3; icases H4 with ⟨Hv, HG⟩
  ihave Hu := (show bigSep Finset.univ (dealt (F := F)) ⊢ seed from Entails.of_eq (dealt_all (F := F))) $$ HG
  imod (Rounds.fund_launch ER (Rd (ins m)) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(own₀ c ∗ own₁ m c)) fun c _ => begin_intro m κ c)
  isplitr
  · unfold records
    isplitr; · iapply (hinv κ) $$ Hinv
    iexact Hr
  iapply Smoke.bigSep_pair
  isplitr [HB]
  · unfold own₀
    iapply Smoke.bigSep_pair; isplitl [Hat]; · iapply hat $$ Hat
    iapply Smoke.bigSep_pair; isplitl [Hopen]; · iapply hopen $$ Hopen
    iapply (toks_around (F := F))
    iapply (Entails.of_eq (toks_eq (F := F))) $$ Htok
  · iexact HB

/-! ## The final memory -/

/-- A buffer that no later operation writes ends as it began. -/
theorem end_arg (c : Dev nD) (b : Ref sig .tc) (h1 : b ≠ main_v11) (h2 : b ≠ main_v12) (h3 : b ≠ main_v10) :
    B3 m c (Proc.devRef .tc b) = V m c b := by
  unfold B3
  rw [StableHlo.after_of_forall_not_mem (b := Proc.devRef .tc b) _ _ (List.forall_iff_forall_mem.mp (by
      simp only [hostOps1, List.Forall, StableHlo.unary_writes, StableHlo.reshape_writes, Finset.mem_singleton]
      exact ⟨StableHlo.devRef_ne_of_ne h1, StableHlo.devRef_ne_of_ne h2⟩)), B2_of_ne m c (StableHlo.devRef_ne_of_ne h3)]
  rfl

/-- The result: the kernel's block, its axes put back. -/
theorem end_result (c : Dev nD) : B3 m c (Proc.devRef .tc main_v12)
    = transpose S2x256x8x64 [0, 3, 1, 2] (shapeCast S2x8x64x256 (outV (ins m) c) shapeCasts_S16x64x256_S2x8x64x256) transposes_S2x8x64x256_S2x256x8x64_0_3_1_2 := by
  unfold B3
  simp only [hostOps1, StableHlo.after_cons, StableHlo.after_nil]
  rw [StableHlo.unary_result, StableHlo.reshape_result, B2_result]
  rfl

/-- A buffer that outlives the call is among those held. -/
theorem mem_bufs (b : Ref sig .tc) (h : b.isScoped = false) : Proc.devRef .tc b ∈ (bufs : Finset (DevRef τ sig)) :=
  Finset.mem_filter.mpr ⟨StableHlo.devRef_mem_tcRefs b, fun h' => Bool.false_ne_true (h.symm.trans h')⟩

/-- Read one buffer against a final state. -/
theorem read_buf (c : Dev nD) (W : Valuation τ sig (Elt F)) (s' : Phys nD τ sig (Elt F)) (b : Ref sig .tc) (hb : b.isScoped = false) :
    (iprop(StableHlo.held (c : Thread nD τ) bufs W ∗ SI s') : sProp 𝕄)
      ⊢ iprop(⌜s'.mem.mem ((c : Thread nD τ).loc b) = W (Proc.devRef .tc b)⌝ ∗ StableHlo.held (c : Thread nD τ) bufs W ∗ SI s') := by
  have e : (StableHlo.held (c : Thread nD τ) {Proc.devRef .tc b} W : sProp 𝕄)
      = iprop(((c : Thread nD τ).loc b) ↦{fullShare} (W (Proc.devRef .tc b) : Buf (Elt F) ((c : Thread nD τ).loc b))) := by
    unfold StableHlo.held; exact BI.bigSep_singleton
  rw [StableHlo.held_sub_split (c : Thread nD τ) (Finset.singleton_subset_iff.mpr (mem_bufs b hb)) W, e]
  iintro ⟨⟨Hx, Hr⟩, HSI⟩
  icombine HSI Hx gives %hx
  isplitr; · ipureintro; exact Buf.eq_of_forall_mem_univ hx
  isplitr [HSI]
  · isplitl [Hx]; · iexact Hx
    iexact Hr
  iexact HSI

set_option backward.isDefEq.respectTransparency.types false in
/-- The run: from any memory with zero counters every weakly fair execution on the sixteen devices terminates, and every
    final state has the arguments unchanged, the results at the attention's value, and every semaphore at zero. -/
theorem run_main : θ_run (defs (F := F)) (onTc (τ := τ) (main (F := F))) ⟨m, fun _ => 0, ρ⟩
    (fun r => (∀ c : Dev nD, r.2.mem ((c : Thread nD τ).loc main_v12) = B3 m c (Proc.devRef .tc main_v12)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () cellOf_inj' EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := dealt) (u₀ := u₀ (F := F))
    (hu₀ := by
      unfold u₀
      iintro Hu
      ihave H := (ownU_pair _ _) $$ Hu
      icases H with ⟨HP, HX⟩
      imodintro
      isplitl [HP]; · iexact HP
      rw [dealt_all]; iexact HX)
    (T₀ := begin m) (Tₙ := ending m)
    (hch := by
      refine ⟨fun c => .rfl, fun c => region_pre m c, fun c => region_post m c, fun c => ?_⟩
      show iprop(StableHlo.held (c : Thread nD τ) bufs (B3 m c) ∗ R1 c)
        ⊢ iprop(ending m c ∗ ∃ W, owes (c : Thread nD τ) (0 : CellTallies nD τ sig Unit) W)
      unfold R1
      iintro ⟨Hh, Hb, HO⟩
      isplitr [HO]
      · isplitl [Hh]; · iexact Hh
        iexact Hb
      iexact HO)
    (hinit := init m ρ)
    (QY := fun c s => s.mem ((c : Thread nD τ).loc main_v12) = B3 m c (Proc.devRef .tc main_v12)
        ∧ s.mem ((c : Thread nD τ).loc main_arg0) = B3 m c (Proc.devRef .tc main_arg0)
        ∧ s.mem ((c : Thread nD τ).loc main_arg1) = B3 m c (Proc.devRef .tc main_arg1)
        ∧ s.mem ((c : Thread nD τ).loc main_arg2) = B3 m c (Proc.devRef .tc main_arg2) ∧ s.sem (barCell c) = 0)
    (hfin := fun c s' => by
      unfold ending
      iintro ⟨⟨Hh, Hb⟩, HSI⟩
      icombine HSI Hb gives %hb
      ihave H0 := (read_buf c (B3 m c) s' main_v12 rfl) $$ [Hh HSI]
      · isplitl [Hh]; · iexact Hh
        iexact HSI
      icases H0 with ⟨%e0, H0⟩
      ihave H1 := (read_buf c (B3 m c) s' main_arg0 rfl) $$ H0
      icases H1 with ⟨%e1, H1⟩
      ihave H2 := (read_buf c (B3 m c) s' main_arg1 rfl) $$ H1
      icases H2 with ⟨%e2, H2⟩
      ihave H3 := (read_buf c (B3 m c) s' main_arg2 rfl) $$ H2
      icases H3 with ⟨%e3, -, HSI⟩
      imodintro
      isplitr
      · ipureintro
        exact ⟨e0, e1, e2, e3, by simpa using hb⟩
      iexact HSI)
    (hQ := fun s h hs => ⟨fun c => by
        obtain ⟨e0, e1, e2, e3, -⟩ := h c
        exact ⟨e0, e1.trans ((end_arg m c main_arg0 (by decide) (by decide) (by decide)).trans (V_main_arg0 m c)),
          e2.trans ((end_arg m c main_arg1 (by decide) (by decide) (by decide)).trans (V_main_arg1 m c)),
          e3.trans ((end_arg m c main_arg2 (by decide) (by decide) (by decide)).trans (V_main_arg2 m c))⟩,
      sem_eq_zero hs fun c sm hsm => by
        obtain rfl := unscoped_eq sm hsm
        exact (h c).2.2.2.2⟩)

end Cert.Ring

end
-- ==== Proof.Frames.lean ====
/-
The frames: every run of the kernel, of its idealization and of the reference ends, with its arguments unchanged
and every semaphore back at zero.
-/
module

public import proofs.«01_k».proof.Defs
public import proofs.«01_k».proof.Proof.Gen.Kernel
public import proofs.«01_k».proof.Proof.Gen.ReferenceIdeal.Run
public import proofs.«01_k».proof.Proof.Whole

@[expose] public section

noncomputable section

namespace Cert.Ring

open Idealize.ShloMosaic Idealize.SL.Sem

variable (e : EltTy)

/-- Every element type has a value among the machine's. -/
instance bits_nonempty : Nonempty (Elt Bits e) := by cases e <;> exact ⟨0⟩
/-- Every element type has a value at the ideal instance. -/
instance ideal_nonempty : Nonempty (Elt Ideal e) := by cases e <;> first | exact ⟨(0 : EReal)⟩ | exact ⟨(0 : BitVec _)⟩

/-- The kernel's body is the idealized kernel's, over bit vectors. -/
theorem body_eq : (Cert.Kernel.cc0__body (F := Bits)) = (Cert.KernelIdeal.cc0__body (F := Bits)) := rfl

/-- So are the programs its calls run, … -/
theorem defs0_eq : (Cert.Kernel.defs₀ (F := Bits)) = (Cert.KernelIdeal.defs₀ (F := Bits)) := by
  funext pr l x
  cases pr with
  | tc =>
    match l, x with
    | 0, (t, s) => rfl
    | ⟨_ + 1, h⟩, _ => exact absurd h (Nat.not_lt.2 (Nat.le_add_left _ _))
  | scScalar => rfl
  | scVector => rfl

/-- … with the pipeline around them, … -/
theorem defs_eq : (Cert.Kernel.defs (F := Bits)) = (Cert.KernelIdeal.defs (F := Bits)) :=
  congrArg (Pipeline.defs (Cert.KernelIdeal.pcfgs (F := Bits))) defs0_eq

/-- … and the whole program of every device. -/
theorem main_text_eq : (Cert.Kernel.main (F := Bits)) = (Cert.KernelIdeal.main (F := Bits)) := funext fun _ => rfl

/-- The idealized kernel ends with its arguments unchanged and its semaphores at zero. -/
theorem frame_ideal : Cert.quiescent_KernelIdeal := by
  intro m ρ _
  exact (θ_run Cert.KernelIdeal.defs _ _).mono (fun _ h => ⟨fun c => (h.1 c).2, h.2⟩) (run_main (F := Ideal) m ρ)

/-- The kernel at bit level ends with its arguments unchanged and its semaphores at zero: its program is the
    idealized kernel's text over bit vectors. -/
theorem frame_kernel : Cert.quiescent_Kernel := by
  intro m ρ _
  rw [defs_eq, main_text_eq]
  exact (θ_run Cert.KernelIdeal.defs _ _).mono (fun _ h => ⟨fun c => (h.1 c).2, h.2⟩) (run_main (F := Bits) m ρ)

/-- The reference ends with its arguments unchanged; it declares no semaphore. -/
theorem frame_reference : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

end Cert.Ring

end
-- ==== Proof.Softmax.lean ====
/-
The softmax over blocks of keys and the plain one, over the extended reals.

The scores are real, the values are any extended reals.  A running maximum, a running sum and a
running output, rescaled at every block and divided at the end, give the softmax-weighted sum of the
values; so does the plain order, which divides first and multiplies by the values then.  Neither
needs to know what the maximum is: that it's a real is enough, for a real taken off all scores leaves
the weights as they are.
-/
module

public import Idealize.ShloMosaic.Lib.Pointwise
public import Idealize.ShloMosaic.Lib.IdealHost

@[expose] public section

noncomputable section

namespace Cert.Ring

open Idealize.ShloMosaic Idealize.ShloMosaic.TcCoe
open scoped BigOperators

/-- The sum of all terms scales by a factor which is a nonnegative real. -/
theorem sum_mul_real {ι : Type} (t : Finset ι) (f : ι → EReal) (c : ℝ) (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hc) (EReal.coe_ne_top c) _ _

/-- A finite sum of reals is the same sum among the extended reals. -/
theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The exponential of a difference of two reals is the real one. -/
theorem exp_sub_coe (a b : ℝ) :
    Ideal.exp ((a : EReal) - (b : EReal)) = ((Real.exp (a - b) : ℝ) : EReal) := by
  rw [← EReal.coe_sub]; rfl

/-- The quotient of a real by a real other than zero is the real one. -/
theorem div_coe (a b : ℝ) (hb : b ≠ 0) :
    Ideal.div (a : EReal) (b : EReal) = ((a / b : ℝ) : EReal) := by
  have h : (b : EReal) ≠ 0 := by exact_mod_cast hb
  rw [Ideal.div, if_neg h, div_eq_mul_inv, EReal.coe_mul, EReal.coe_inv]

/-- The larger of two reals is a real. -/
theorem max_coe (a b : ℝ) : max (a : EReal) (b : EReal) = ((max a b : ℝ) : EReal) :=
  (EReal.coe_strictMono.monotone.map_max).symm

/-- The largest of finitely many reals, of at least one, is a real. -/
theorem fold_max_real {n : ℕ} [NeZero n] (f : Fin n → ℝ) :
    ∃ M : ℝ, (Finset.univ : Finset (Fin n)).fold max (⊥ : EReal) (fun k => (f k : EReal))
      = (M : EReal) := by
  have hT : (Finset.univ : Finset (Fin n)).fold max (⊥ : EReal) (fun k => (f k : EReal)) < ⊤ :=
    (Finset.fold_max_lt _).mpr ⟨bot_lt_top, fun k _ => EReal.coe_lt_top _⟩
  have hB : ⊥ < (Finset.univ : Finset (Fin n)).fold max (⊥ : EReal) (fun k => (f k : EReal)) :=
    (Finset.lt_fold_max _).mpr (Or.inr ⟨0, Finset.mem_univ _, EReal.bot_lt_coe _⟩)
  exact ⟨_, (EReal.coe_toReal hT.ne hB.ne').symm⟩

/-- The running maximum, sum and output of a softmax over blocks of keys, for one query and one
feature: the first block sets them, each later block rescales them. -/
noncomputable def runM {K : ℕ} (s : ℕ → Fin K → EReal) : ℕ → EReal
  | 0 => (Finset.univ : Finset (Fin K)).fold max ⊥ (s 0)
  | n + 1 => max (runM s n) ((Finset.univ : Finset (Fin K)).fold max ⊥ (s (n + 1)))

/-- The running sum of the exponentials. -/
noncomputable def runL {K : ℕ} (s : ℕ → Fin K → EReal) : ℕ → EReal
  | 0 => ∑ k, Ideal.exp (s 0 k - runM s 0)
  | n + 1 => runL s n * Ideal.exp (runM s n - runM s (n + 1))
      + ∑ k, Ideal.exp (s (n + 1) k - runM s (n + 1))

/-- The running sum of the values under their exponentials. -/
noncomputable def runO {K : ℕ} (s v : ℕ → Fin K → EReal) : ℕ → EReal
  | 0 => ∑ k, v 0 k * Ideal.exp (s 0 k - runM s 0)
  | n + 1 => runO s v n * Ideal.exp (runM s n - runM s (n + 1))
      + ∑ k, v (n + 1) k * Ideal.exp (s (n + 1) k - runM s (n + 1))

/-- After any number of blocks of real scores the running maximum is some real `M`, and both sums
are those over all blocks so far with `M` taken off every score.  The values are any extended
reals. -/
theorem run_eq {K : ℕ} [NeZero K] (s : ℕ → Fin K → ℝ) (v : ℕ → Fin K → EReal) (n : ℕ) :
    ∃ M : ℝ, runM (fun i k => (s i k : EReal)) n = (M : EReal)
      ∧ runL (fun i k => (s i k : EReal)) n
        = ((∑ i ∈ Finset.range (n + 1), ∑ k, Real.exp (s i k - M) : ℝ) : EReal)
      ∧ runO (fun i k => (s i k : EReal)) v n
        = ∑ i ∈ Finset.range (n + 1), ∑ k, v i k * ((Real.exp (s i k - M) : ℝ) : EReal) := by
  induction n with
  | zero =>
    obtain ⟨M, hM⟩ := fold_max_real (s 0)
    have hM' : runM (fun i k => (s i k : EReal)) 0 = (M : EReal) := hM
    refine ⟨M, hM', ?_, ?_⟩
    · rw [runL, hM']
      simp only [exp_sub_coe, zero_add, Finset.range_one, Finset.sum_singleton, coe_sum]
    · rw [runO, hM']
      simp only [exp_sub_coe, zero_add, Finset.range_one, Finset.sum_singleton]
  | succ n ih =>
    obtain ⟨M, hM, hL, hO⟩ := ih
    obtain ⟨T, hT⟩ := fold_max_real (s (n + 1))
    have hM' : runM (fun i k => (s i k : EReal)) (n + 1) = ((max M T : ℝ) : EReal) := by
      rw [runM, hM, hT, max_coe]
    have hx : ∀ x : ℝ, Real.exp (x - M) * Real.exp (M - max M T) = Real.exp (x - max M T) := by
      intro x; rw [← Real.exp_add]; congr 1; ring
    refine ⟨max M T, hM', ?_, ?_⟩
    · rw [runL, hM', hM, hL, Finset.sum_range_succ _ (n + 1), EReal.coe_add, exp_sub_coe,
        ← EReal.coe_mul]
      congr 1
      · congr 1
        simp only [Finset.sum_mul, hx]
      · simp only [exp_sub_coe, coe_sum]
    · rw [runO, hM', hM, hO, Finset.sum_range_succ _ (n + 1), exp_sub_coe,
        sum_mul_real _ _ _ (Real.exp_pos _).le]
      congr 1
      · refine Finset.sum_congr rfl fun i _ => ?_
        rw [sum_mul_real _ _ _ (Real.exp_pos _).le]
        refine Finset.sum_congr rfl fun k _ => ?_
        rw [mul_assoc, ← EReal.coe_mul, hx]

/-- A softmax-weighted sum of the values: the weights are the exponentials of the real scores over
their sum. -/
noncomputable def att {ι : Type} [Fintype ι] (s : ι → ℝ) (v : ι → EReal) : EReal :=
  ∑ k, v k * ((Real.exp (s k) / ∑ j, Real.exp (s j) : ℝ) : EReal)

/-- A real taken off all scores doesn't change a weight. -/
theorem weight_shift {ι : Type} [Fintype ι] (s : ι → ℝ) (M : ℝ) (k : ι) :
    Real.exp (s k - M) / ∑ j, Real.exp (s j - M) = Real.exp (s k) / ∑ j, Real.exp (s j) := by
  have h : ∀ x : ℝ, Real.exp (x - M) = Real.exp x * Real.exp (-M) := by
    intro x; rw [← Real.exp_add]; rfl
  simp only [h, ← Finset.sum_mul]
  exact mul_div_mul_right _ _ (Real.exp_pos _).ne'

/-- The sum of the exponentials of at least one real isn't zero. -/
theorem sum_exp_ne {ι : Type} [Fintype ι] [Nonempty ι] (s : ι → ℝ) : ∑ j, Real.exp (s j) ≠ 0 :=
  (Finset.sum_pos (fun _ _ => Real.exp_pos _) Finset.univ_nonempty).ne'

/-- A weighted sum divided at the end is the softmax-weighted sum. -/
theorem sum_div_eq_att {ι : Type} [Fintype ι] [Nonempty ι] (s : ι → ℝ) (v : ι → EReal) (M : ℝ) :
    Ideal.div (∑ k, v k * ((Real.exp (s k - M) : ℝ) : EReal))
      ((∑ k, Real.exp (s k - M) : ℝ) : EReal) = att s v := by
  have h0 : (∑ k, Real.exp (s k - M)) ≠ 0 := sum_exp_ne fun k => s k - M
  have hp : 0 ≤ (∑ k, Real.exp (s k - M))⁻¹ :=
    inv_nonneg.mpr (Finset.sum_nonneg fun _ _ => (Real.exp_pos _).le)
  have h : ((∑ k, Real.exp (s k - M) : ℝ) : EReal) ≠ 0 := by exact_mod_cast h0
  rw [Ideal.div, if_neg h, ← EReal.coe_inv, sum_mul_real _ _ _ hp, att]
  refine Finset.sum_congr rfl fun k _ => ?_
  rw [mul_assoc, ← EReal.coe_mul, ← div_eq_mul_inv, weight_shift]

/-- The plain softmax, which divides every exponential by their sum before the values come in, is
the softmax-weighted sum. -/
theorem plain_eq_att {n : ℕ} [NeZero n] (s : Fin n → ℝ) (v : Fin n → EReal) :
    (∑ k, v k * Ideal.div
        (Ideal.exp ((s k : EReal) - (Finset.univ : Finset (Fin n)).fold max ⊥ fun j => (s j : EReal)))
        (∑ i, Ideal.exp ((s i : EReal)
          - (Finset.univ : Finset (Fin n)).fold max ⊥ fun j => (s j : EReal))))
      = att s v := by
  obtain ⟨M, hM⟩ := fold_max_real s
  simp only [hM, exp_sub_coe, ← coe_sum]
  refine Finset.sum_congr rfl fun k _ => ?_
  rw [div_coe _ _ (sum_exp_ne fun k => s k - M), weight_shift]

/-- The block-wise softmax over `n + 1` blocks, divided at the end, is the softmax-weighted sum over
all pairs of a block and a key in it. -/
theorem run_div {K : ℕ} [NeZero K] (s : ℕ → Fin K → ℝ) (v : ℕ → Fin K → EReal) (n : ℕ) :
    Ideal.div (runO (fun i k => (s i k : EReal)) v n) (runL (fun i k => (s i k : EReal)) n)
      = att (fun p : Fin (n + 1) × Fin K => s p.1 p.2) (fun p => v p.1 p.2) := by
  obtain ⟨M, -, hL, hO⟩ := run_eq s v n
  rw [hL, hO, ← sum_div_eq_att _ _ M]
  congr 1
  · rw [Fintype.sum_prod_type, Finset.sum_range]
  · rw [Fintype.sum_prod_type, Finset.sum_range]

/-- A softmax-weighted sum doesn't depend on the order of the keys. -/
theorem att_equiv {ι κ : Type} [Fintype ι] [Fintype κ] (e : ι ≃ κ) (s : κ → ℝ) (v : κ → EReal) :
    att (fun i => s (e i)) (fun i => v (e i)) = att s v := by
  unfold att
  rw [← e.sum_comp fun j => Real.exp (s j)]
  exact e.sum_comp fun k => v k * ((Real.exp (s k) / ∑ i, Real.exp (s (e i)) : ℝ) : EReal)

end Cert.Ring

end
-- ==== Proof.Lanes.lean ====
/-
The kernel's result read at an index, over the extended reals.

Every stored term of the kernel is read at a head, a query and a key: the scores are scaled inner
products, and the state of a chain after some slots is the running state of the softmax over blocks.
Dividing the output by the sum gives the result in one head, feature and query.
-/
module

public import proofs.«01_k».proof.Proof.Run
public import proofs.«01_k».proof.Proof.Softmax
public import Idealize.ShloMosaic.Lib.Pointwise

@[expose] public section

noncomputable section

namespace Cert.Ring

open Cert.KernelIdeal Cert.KernelIdeal.Gen
open Idealize.ShloMosaic Idealize.ShloMosaic.TcCoe
open scoped BigOperators

/-- The score's scale, one over the root of the feature count. -/
def scale : EReal := Ideal.ofBits .f32 0x3E000000#32

/-- The scale is a real. -/
theorem scale_real : scale = ((1 / 8 : ℝ) : EReal) := by
  unfold scale; simp [Ideal.ofBits, Ideal.ieee, -EReal.coe_mul]; norm_num

/-- The maximum starts from minus infinity. -/
theorem ofBits_bot : Ideal.ofBits .f32 0xFF800000#32 = (⊥ : EReal) := by
  simp [Ideal.ofBits, Ideal.ieee]

/-! ## One slot at an index -/

section Slot

variable (q k v : Vec Ideal S4x64x256 .bf16) (B : Blk Ideal) (h : Fin 4) (a b : Fin 256) (d : Fin 64)

/-- The score of query `a` and key `b` in head `h`. -/
def sc (q k : Vec Ideal S4x64x256 .bf16) (h : Fin 4) (a b : Fin 256) : EReal :=
  (∑ e : Fin 64, q (ix3 h e a) * k (ix3 h e b)) * scale

/-- The first slot's scores at an index. -/
theorem pay41_apply : k0_pay41 q (asSlot k) (ix3 h a b) = sc q k h a b := by
  unfold sc scale
  pointwise [k0_pay41, asSlot, k0_pay30]

/-- A later slot's scores at an index. -/
theorem pay4_apply : k0_pay4 (k0_pay1 q) (k0_pay2 (asSlot k)) (ix3 h a b) = sc q k h a b := by
  unfold sc scale
  pointwise [k0_pay4, k0_pay1, k0_pay2, asSlot, k0_pay30]

/-- The maximum after the first slot is the largest of its scores. -/
theorem blk0_m : (blk0 q (asSlot k) (asSlot v)).m (ix2 h a)
    = (Finset.univ : Finset (Fin 256)).fold max ⊥ fun b => sc q k h a b := by
  unfold blk0
  pointwise [k0_pay46, k0_pay42]
  simp only [pay41_apply, ofBits_bot]

/-- The first slot's exponentials at an index. -/
theorem pay43_apply : k0_pay43 q (asSlot k) (ix3 h a b)
    = Ideal.exp (sc q k h a b - (blk0 q (asSlot k) (asSlot v)).m (ix2 h a)) := by
  rw [blk0_m]
  pointwise [k0_pay43, k0_pay42]
  simp only [pay41_apply, ofBits_bot]

/-- The sum after the first slot is that of its exponentials. -/
theorem blk0_l : (blk0 q (asSlot k) (asSlot v)).l (ix2 h a)
    = ∑ b, Ideal.exp (sc q k h a b - (blk0 q (asSlot k) (asSlot v)).m (ix2 h a)) := by
  show k0_pay44 (k0_pay43 q (asSlot k)) (ix2 h a) = _
  pointwise [k0_pay44]
  simp only [pay43_apply q k v]

/-- The output after the first slot is the sum of its values under their exponentials. -/
theorem blk0_o : (blk0 q (asSlot k) (asSlot v)).o (ix3 h d a)
    = ∑ b, v (ix3 h d b) * Ideal.exp (sc q k h a b - (blk0 q (asSlot k) (asSlot v)).m (ix2 h a)) := by
  have hv : ∀ b, v (ix3 h d b) = k0_pay40 (asSlot v) (ix3 h d b) := by
    intro b; pointwise [k0_pay40, asSlot, k0_pay30]
  simp only [← pay43_apply q k v, hv]
  show k0_pay45 (k0_pay40 (asSlot v)) (k0_pay43 q (asSlot k)) (ix3 h d a) = _
  pointwise [k0_pay45]

/-- The new maximum at an index. -/
theorem pay5_apply (m : Vec Ideal S4x256 .f32) : k0_pay5 (k0_pay1 q) (k0_pay2 (asSlot k)) m (ix2 h a)
    = max (m (ix2 h a)) ((Finset.univ : Finset (Fin 256)).fold max ⊥ fun b => sc q k h a b) := by
  pointwise [k0_pay5]
  simp only [pay4_apply, ofBits_bot]

/-- The maximum after one more slot. -/
theorem blkS_m : (blkS q (asSlot k) (asSlot v) B).m (ix2 h a)
    = max (B.m (ix2 h a)) ((Finset.univ : Finset (Fin 256)).fold max ⊥ fun b => sc q k h a b) := by
  rw [← pay5_apply]
  show k0_pay10 _ _ _ _ = _
  pointwise [k0_pay10]

/-- The factor by which a later slot rescales. -/
theorem pay6_apply : k0_pay6 (k0_pay1 q) (k0_pay2 (asSlot k)) B.m B.m (ix2 h a)
    = Ideal.exp (B.m (ix2 h a) - (blkS q (asSlot k) (asSlot v) B).m (ix2 h a)) := by
  rw [blkS_m, ← pay5_apply]
  pointwise [k0_pay6]

/-- A later slot's exponentials at an index. -/
theorem pay7_apply : k0_pay7 (k0_pay1 q) (k0_pay2 (asSlot k)) B.m (ix3 h a b)
    = Ideal.exp (sc q k h a b - (blkS q (asSlot k) (asSlot v) B).m (ix2 h a)) := by
  rw [blkS_m, ← pay5_apply, ← pay4_apply]
  pointwise [k0_pay7]

/-- The sum after one more slot: rescaled, and the slot's exponentials added. -/
theorem blkS_l : (blkS q (asSlot k) (asSlot v) B).l (ix2 h a)
    = B.l (ix2 h a) * Ideal.exp (B.m (ix2 h a) - (blkS q (asSlot k) (asSlot v) B).m (ix2 h a))
      + ∑ b, Ideal.exp (sc q k h a b - (blkS q (asSlot k) (asSlot v) B).m (ix2 h a)) := by
  rw [← pay6_apply]
  simp only [← pay7_apply q k v B]
  show k0_pay8 _ _ _ _ _ _ = _
  pointwise [k0_pay8]

/-- The output after one more slot: rescaled, and the slot's values added under their exponentials. -/
theorem blkS_o : (blkS q (asSlot k) (asSlot v) B).o (ix3 h d a)
    = B.o (ix3 h d a) * Ideal.exp (B.m (ix2 h a) - (blkS q (asSlot k) (asSlot v) B).m (ix2 h a))
      + ∑ b, v (ix3 h d b) * Ideal.exp (sc q k h a b - (blkS q (asSlot k) (asSlot v) B).m (ix2 h a)) := by
  have hv : ∀ b, v (ix3 h d b) = k0_pay3 (asSlot v) (ix3 h d b) := by
    intro b; pointwise [k0_pay3, asSlot, k0_pay30]
  rw [← pay6_apply]
  simp only [← pay7_apply q k v B, hv]
  show k0_pay9 _ _ _ _ _ _ _ = _
  pointwise [k0_pay9]

end Slot

/-! ## A chain at an index -/

section Chain

variable (I : Inputs Ideal) (x j : Bool) (c : Dev nD) (h : Fin 4) (a : Fin 256) (d : Fin 64)

/-- The scores of one query against the blocks of keys in the order in which a chain brings them. -/
def scs (i : ℕ) (b : Fin 256) : EReal := sc (rows x j (I.q c)) (rows x j (I.k (src x i c))) h a b

/-- One feature of the values in the order in which a chain brings them. -/
def vls (i : ℕ) (b : Fin 256) : EReal := rows x j (I.v (src x i c)) (ix3 h d b)

/-- The state of a chain is that of the softmax over blocks. -/
theorem blk_run (n : ℕ) :
    (blk I x j c n).m (ix2 h a) = runM (scs I x j c h a) n
      ∧ (blk I x j c n).l (ix2 h a) = runL (scs I x j c h a) n
      ∧ ∀ d, (blk I x j c n).o (ix3 h d a) = runO (scs I x j c h a) (vls I x j c h d) n := by
  induction n with
  | zero =>
    have hm : (blk I x j c 0).m (ix2 h a) = runM (scs I x j c h a) 0 := by
      unfold blk; rw [blk0_m]; rfl
    refine ⟨hm, ?_, fun d => ?_⟩
    · rw [runL, ← hm]; unfold blk; rw [blk0_l]; rfl
    · rw [runO, ← hm]; unfold blk; rw [blk0_o]; rfl
  | succ n ih =>
    obtain ⟨im, il, io⟩ := ih
    have hm : (blk I x j c (n + 1)).m (ix2 h a) = runM (scs I x j c h a) (n + 1) := by
      rw [runM, ← im, blk, blkS_m]; rfl
    refine ⟨hm, ?_, fun d => ?_⟩
    · rw [runL, ← hm, ← im, ← il, blk, blkS_l]; rfl
    · rw [runO, ← hm, ← im, ← io d, blk, blkS_o]; rfl

end Chain

/-! ## The result at an index -/

/-- Which half of the heads, and which half of that. -/
def hx (r : Fin 16) : Bool := decide (8 ≤ r.val)
/-- Which half of a chain's heads a head is in. -/
def hj (r : Fin 16) : Bool := decide (4 ≤ r.val % 8)
/-- A head's place among the four of its block. -/
def hr (r : Fin 16) : Fin 4 := ⟨r.val % 4, Nat.mod_lt _ (by decide)⟩

/-- A head's number from the chain, the sub-block and the place. -/
theorem head_eq (r : Fin 16) : 8 * (hx r).toNat + 4 * (hj r).toNat + 1 * (hr r).val = r.val := by
  revert r; decide

/-- A head's rows, cut out and read at the head's place among four, are those of the head. -/
theorem rows_apply (X : Vec Ideal S16x64x256 .bf16) (r : Fin 16) (d : Fin 64) (a : Fin 256) :
    rows (hx r) (hj r) X (ix3 (hr r) d a) = X (ix3 r d a) := by
  unfold rows
  congr 1
  funext t
  apply Fin.ext
  match t with
  | 0 => exact head_eq r
  | 1 => show 0 + 1 * d.val = d.val; omega
  | 2 => show 0 + 1 * a.val = a.val; omega

/-- The kernel's result in head `r`, feature `d` and query `a`. -/
theorem outV_apply (I : Inputs Ideal) (c : Dev nD) (r : Fin 16) (d : Fin 64) (a : Fin 256) :
    outV I c (ix3 r d a)
      = Ideal.div
        (runO (fun i b => (∑ e : Fin 64, I.q c (ix3 r e a) * I.k (src (hx r) i c) (ix3 r e b)) * scale)
          (fun i b => I.v (src (hx r) i c) (ix3 r d b)) 15)
        (runL (fun i b => (∑ e : Fin 64, I.q c (ix3 r e a) * I.k (src (hx r) i c) (ix3 r e b)) * scale) 15) := by
  have hs : scs I (hx r) (hj r) c (hr r) a
      = fun i b => (∑ e : Fin 64, I.q c (ix3 r e a) * I.k (src (hx r) i c) (ix3 r e b)) * scale := by
    funext i b; simp only [scs, sc, rows_apply]
  have hv : vls I (hx r) (hj r) c (hr r) d = fun i b => I.v (src (hx r) i c) (ix3 r d b) := by
    funext i b; simp only [vls, rows_apply]
  rw [← hs, ← hv]
  obtain ⟨-, hl, ho⟩ := blk_run I (hx r) (hj r) c (hr r) a 15
  rw [← hl, ← ho d]
  have e3 : rowIdx3 (ix3 r d a) = ix3 (hr r) d a := by
    funext t; match t with | 0 => rfl | 1 => rfl | 2 => rfl
  have e2 : rowIdx2 (ix2 r a) = ix2 (hr r) a := by
    funext t; match t with | 0 => rfl | 1 => rfl
  have j3 : ∀ A : Bool → Bool → S4x64x256.Idx → EReal, join3 A (ix3 r d a) = A (hx r) (hj r) (ix3 (hr r) d a) := by
    intro A; rw [← e3]; rfl
  have j2 : ∀ A : Bool → Bool → S4x256.Idx → EReal, join2 A (ix2 r a) = A (hx r) (hj r) (ix2 (hr r) a) := by
    intro A; rw [← e2]; rfl
  unfold outV
  pointwise [k0_pay110]
  exact congrArg₂ Ideal.div (j3 _) (j2 _)

end Cert.Ring

end
-- ==== Proof.Values.lean ====
/-
The whole program's result read at an index, over the extended reals: the host operations before and after the
call, the blocks the devices hold of the whole arrays, and the order in which a chain brings the keys.
-/
module

public import proofs.«01_k».proof.Proof.Whole
public import proofs.«01_k».proof.Proof.Lanes
public import Idealize.ShloMosaic.Lib.Pointwise
public import Idealize.ShloMosaic.Lib.Layout

@[expose] public section

noncomputable section

namespace Cert.Ring

open Cert.KernelIdeal Cert.KernelIdeal.Gen
open Idealize.ShloMosaic Idealize.ShloMosaic.TcCoe
open scoped BigOperators

section Host

variable {F : FTy → Type} [FloatOps F] (m : (ℓ : Loc nD τ sig) → Buf (Elt F) ℓ) (c : Dev nD)

/-- The queries the kernel is called with, of the program's argument. -/
theorem V_in0 : V m c main_v3 = truncf (φ := .f32) .bf16 (shapeCast S16x64x256 (transpose S2x8x64x256 [0, 2, 3, 1]
    (m ((c.tc : Thread nD τ).loc main_arg0)) transposes_S2x256x8x64_S2x8x64x256_0_2_3_1) shapeCasts_S2x8x64x256_S16x64x256) bitsLt_bf16_f32 := by
  show StableHlo.after hostOps0 (fun b => m (c, b)) (Proc.devRef .tc main_v3) = _
  simp only [hostOps0]
  after_results
  rfl

/-- The keys the kernel is called with, of the program's argument. -/
theorem V_in1 : V m c main_v6 = truncf (φ := .f32) .bf16 (shapeCast S16x64x256 (transpose S2x8x64x256 [0, 2, 3, 1]
    (m ((c.tc : Thread nD τ).loc main_arg1)) transposes_S2x256x8x64_S2x8x64x256_0_2_3_1) shapeCasts_S2x8x64x256_S16x64x256) bitsLt_bf16_f32 := by
  show StableHlo.after hostOps0 (fun b => m (c, b)) (Proc.devRef .tc main_v6) = _
  simp only [hostOps0]
  after_results
  rfl

/-- The values the kernel is called with, of the program's argument. -/
theorem V_in2 : V m c main_v9 = truncf (φ := .f32) .bf16 (shapeCast S16x64x256 (transpose S2x8x64x256 [0, 2, 3, 1]
    (m ((c.tc : Thread nD τ).loc main_arg2)) transposes_S2x256x8x64_S2x8x64x256_0_2_3_1) shapeCasts_S2x8x64x256_S16x64x256) bitsLt_bf16_f32 := by
  show StableHlo.after hostOps0 (fun b => m (c, b)) (Proc.devRef .tc main_v9) = _
  simp only [hostOps0]
  after_results
  rfl

end Host

/-- The head among sixteen of a batch entry and a head of it. -/
def head (b : Fin 2) (h : Fin 8) : Fin 16 := ⟨b.val * 8 + h.val, by omega⟩

/-- The place in the whole array of row `a` of block `c`. -/
def pos (c : Fin 16) (a : Fin 256) : Fin 4096 := ⟨c.val * 256 + a.val, by omega⟩

/-- An argument as the kernel is called with it, at an index. -/
theorem staged_apply (X : FVec Ideal S2x256x8x64 .f32) (b : Fin 2) (h : Fin 8) (d : Fin 64) (a : Fin 256) :
    (truncf .bf16 (shapeCast S16x64x256 (transpose S2x8x64x256 [0, 2, 3, 1] X
      transposes_S2x256x8x64_S2x8x64x256_0_2_3_1) shapeCasts_S2x8x64x256_S16x64x256) bitsLt_bf16_f32 : FVec Ideal S16x64x256 .bf16)
      (ix3 (head b h) d a) = X (ix4 b a h d) := by
  unfold head
  pointwise

/-- The kernel's result as the program returns it, at an index. -/
theorem returned_apply (X : FVec Ideal S16x64x256 .f32) (b : Fin 2) (h : Fin 8) (d : Fin 64) (a : Fin 256) :
    transpose S2x256x8x64 [0, 3, 1, 2] (shapeCast S2x8x64x256 X shapeCasts_S16x64x256_S2x8x64x256)
      transposes_S2x8x64x256_S2x256x8x64_0_3_1_2 (ix4 b a h d) = X (ix3 (head b h) d a) := by
  unfold head
  pointwise

/-- A device's block of a whole array, at an index. -/
theorem block_at (c : Fin 16) (X : FVec Ideal ⟨4, ![2, 4096, 8, 64]⟩ .f32) (b : Fin 2) (h : Fin 8) (d : Fin 64) (a : Fin 256) :
    Layout.block ⟨4, ![2, 256, 8, 64]⟩ ⟨4, ![2, 4096, 8, 64]⟩ 1 16 c X (by decide) (ix4 b a h d) = X (ix4 b (pos c a) h d) := by
  rw [Layout.block_apply]
  congr 1
  funext t
  apply Fin.ext
  match t with
  | 0 => rfl
  | 1 => rfl
  | 2 => rfl
  | 3 => rfl

/-- In sixteen slots a chain brings every device's block once. -/
theorem src_injective (x : Bool) (c : Dev nD) : Function.Injective fun i : Fin 16 => src x i.val c := by
  unfold Function.Injective
  revert x c
  decide

/-- The pairs of a slot of a chain and a key in it are the keys of the whole array. -/
def keys (x : Bool) (c : Dev nD) : Fin 16 × Fin 256 ≃ Fin 4096 :=
  ((Equiv.ofBijective _ (Finite.injective_iff_bijective.mp (src_injective x c))).prodCongr (Equiv.refl (Fin 256))).trans
    (finProdFinEquiv : Fin 16 × Fin 256 ≃ Fin (16 * 256))

/-- The key of a slot and a key in it. -/
theorem keys_apply (x : Bool) (c : Dev nD) (p : Fin 16 × Fin 256) : keys x c p = pos (src x p.1.val c) p.2 := by
  apply Fin.ext
  show p.2.val + 256 * (src x p.1.val c).val = (src x p.1.val c).val * 256 + p.2.val
  omega

/-- What a device's arguments hold: its block of each of three whole arrays. -/
structure Parts (m : (ℓ : Loc nD τ sig) → Buf (Elt Ideal) ℓ) (Q K W : FVec Ideal ⟨4, ![2, 4096, 8, 64]⟩ .f32) : Prop where
  q : ∀ c : Dev nD, m ((c.tc : Thread nD τ).loc main_arg0) = Layout.block ⟨4, ![2, 256, 8, 64]⟩ ⟨4, ![2, 4096, 8, 64]⟩ 1 16 c Q
  k : ∀ c : Dev nD, m ((c.tc : Thread nD τ).loc main_arg1) = Layout.block ⟨4, ![2, 256, 8, 64]⟩ ⟨4, ![2, 4096, 8, 64]⟩ 1 16 c K
  v : ∀ c : Dev nD, m ((c.tc : Thread nD τ).loc main_arg2) = Layout.block ⟨4, ![2, 256, 8, 64]⟩ ⟨4, ![2, 4096, 8, 64]⟩ 1 16 c W

section Result

variable {m : (ℓ : Loc nD τ sig) → Buf (Elt Ideal) ℓ} {Q K W : FVec Ideal ⟨4, ![2, 4096, 8, 64]⟩ .f32}
  (H : Parts m Q K W) (c : Dev nD) (b : Fin 2) (h : Fin 8) (d : Fin 64) (a : Fin 256)
include H

/-- The staged queries at an index, of the whole array. -/
theorem ins_q : (ins m).q c (ix3 (head b h) d a) = Q (ix4 b (pos c a) h d) := by
  exact (congrFun (V_in0 m c) _).trans ((staged_apply _ b h d a).trans ((congrFun (H.q c) _).trans (block_at c Q b h d a)))

/-- The staged keys at an index, of the whole array. -/
theorem ins_k : (ins m).k c (ix3 (head b h) d a) = K (ix4 b (pos c a) h d) := by
  exact (congrFun (V_in1 m c) _).trans ((staged_apply _ b h d a).trans ((congrFun (H.k c) _).trans (block_at c K b h d a)))

/-- The staged values at an index, of the whole array. -/
theorem ins_v : (ins m).v c (ix3 (head b h) d a) = W (ix4 b (pos c a) h d) := by
  exact (congrFun (V_in2 m c) _).trans ((staged_apply _ b h d a).trans ((congrFun (H.v c) _).trans (block_at c W b h d a)))

/-- With real scores the program's result on device `c` is the softmax-weighted sum of the values over the whole
sequence, for the query of the whole array which is the device's. -/
theorem result_att (s : Fin 4096 → ℝ)
    (hs : ∀ t, (∑ e : Fin 64, Q (ix4 b (pos c a) h e) * K (ix4 b t h e)) * scale = (s t : EReal)) :
    (B3 m c (Proc.devRef .tc main_v12) : FVec Ideal S2x256x8x64 .f32) (ix4 b a h d)
      = att s fun t => W (ix4 b t h d) := by
  have e : (B3 m c (Proc.devRef .tc main_v12) : FVec Ideal S2x256x8x64 .f32) (ix4 b a h d)
      = outV (ins m) c (ix3 (head b h) d a) := by
    rw [end_result]; exact returned_apply _ b h d a
  rw [e, outV_apply]
  simp only [ins_q H, ins_k H, ins_v H, hs]
  rw [run_div (fun i u => s (pos (src (hx (head b h)) i c) u)) _ 15, ← att_equiv (keys (hx (head b h)) c) s]
  simp only [keys_apply]

end Result

end Cert.Ring

end
-- ==== Proof.Plain.lean ====
/-
The reference's result read at an index, over the extended reals: a softmax-weighted sum of the values.
-/
module

public import proofs.«01_k».proof.Proof.Gen.ReferenceIdeal.Run
public import proofs.«01_k».proof.Proof.Softmax
public import Idealize.ShloMosaic.Lib.Pointwise
public import Idealize.ShloMosaic.Lib.IdealHost

@[expose] public section

noncomputable section

namespace Cert.Ring

open Cert.ReferenceIdeal Cert.ReferenceIdeal.Gen
open Idealize.ShloMosaic Idealize.ShloMosaic.TcCoe
open scoped BigOperators

section Score

variable (Q K V : FVec Ideal S2x4096x8x64 .f32) (b : Fin 2) (h : Fin 8) (a t : Fin 4096) (d : Fin 64)

/-- The reference's scores. -/
def rS : FVec Ideal S2x8x4096x4096 .f32 :=
  mulf (Host.dotGeneral dot_S2x4096x8x64_S2x4096x8x64_S2x8x4096x4096_3_3_1_1_02_02 none Q K)
    (broadcastInDim S2x8x4096x4096 ![] bcast_S_S2x8x4096x4096 (constant S_ .f32 0x3E000000#32))

/-- The reference's exponentials. -/
def rE : FVec Ideal S2x8x4096x4096 .f32 :=
  Host.exp (subf (rS Q K) (broadcastInDim S2x8x4096x4096 ![0, 1, 2, 3] bcast_S2x8x4096x1_S2x8x4096x4096_0_1_2_3
    (broadcastInDim S2x8x4096x1 ![0, 1, 2] bcast_S2x8x4096_S2x8x4096x1_0_1_2
      (Host.reduce FloatOps.maximumf (rS Q K) (constant S_ .f32 0xFF800000#32) reducesTo_S2x8x4096x4096_S2x8x4096_d3 h_S_))))

/-- The reference's result. -/
def rO : FVec Ideal S2x4096x8x64 .f32 :=
  transpose S2x4096x8x64 [0, 3, 1, 2]
    (Host.dotGeneral dot_S2x4096x8x64_S2x8x4096x4096_S2x8x64x4096_1_3_3_2_02_01 none V
      (Host.divf (rE Q K) (broadcastInDim S2x8x4096x4096 ![0, 1, 2, 3] bcast_S2x8x4096x1_S2x8x4096x4096_0_1_2_3
        (broadcastInDim S2x8x4096x1 ![0, 1, 2] bcast_S2x8x4096_S2x8x4096x1_0_1_2
          (Host.reduceAdd (rE Q K) (constant S_ .f32 0x00000000#32) reducesTo_S2x8x4096x4096_S2x8x4096_d3 h_S_)))))
    transposes_S2x8x64x4096_S2x4096x8x64_0_3_1_2

/-- A score is the scaled inner product of a query and a key. -/
theorem rS_apply : rS Q K (ix4 b h a t)
    = (∑ e : Fin 64, Q (ix4 b a h e) * K (ix4 b t h e)) * Ideal.ofBits .f32 0x3E000000#32 := by
  pointwise [rS]

/-- An exponential is that of a score less the largest score of its query. -/
theorem rE_apply : rE Q K (ix4 b h a t)
    = Ideal.exp (rS Q K (ix4 b h a t)
      - (Finset.univ : Finset (Fin 4096)).fold max (Ideal.ofBits .f32 0xFF800000#32) fun u => rS Q K (ix4 b h a u)) := by
  pointwise [rE]

/-- The result is the sum of the values under the normalised exponentials. -/
theorem rO_apply : rO Q K V (ix4 b a h d)
    = ∑ t : Fin 4096, V (ix4 b t h d) * Ideal.div (rE Q K (ix4 b h a t)) (∑ u : Fin 4096, rE Q K (ix4 b h a u)) := by
  pointwise [rO]

/-- With real scores the reference's result is the softmax-weighted sum of the values. -/
theorem rO_att (s : Fin 4096 → ℝ)
    (hs : ∀ t, (∑ e : Fin 64, Q (ix4 b a h e) * K (ix4 b t h e)) * Ideal.ofBits .f32 0x3E000000#32 = (s t : EReal)) :
    rO Q K V (ix4 b a h d) = att s fun t => V (ix4 b t h d) := by
  have hb : Ideal.ofBits .f32 0xFF800000#32 = (⊥ : EReal) := by simp [Ideal.ofBits, Ideal.ieee]
  rw [rO_apply, ← plain_eq_att]
  simp only [rE_apply, rS_apply, hs, hb]

end Score

end Cert.Ring

end
-- ==== Proof.Algebra.lean ====
/-
The algebraic claim: on sixteen devices, each of which holds its block of the queries, keys and values, the kernel's
results are the blocks of the reference's result over the extended reals, where the queries and keys are finite.
-/
module

public import proofs.«01_k».proof.Defs
public import proofs.«01_k».proof.Proof.Values
public import proofs.«01_k».proof.Proof.Plain
public import proofs.«01_k».proof.Proof.Frames
public import Idealize.ShloMosaic.Lib.IdealHost

@[expose] public section

noncomputable section

namespace Cert.Ring

open Cert.KernelIdeal Cert.KernelIdeal.Gen
open Idealize.ShloMosaic Idealize.ShloMosaic.TcCoe
open Idealize.SL.Sem
open scoped BigOperators

/-! ## The precondition -/

/-- The shape fact of the precondition, read of one device's blocks. -/
theorem preFacts : Cert.Pre_finite_qk_KernelIdeal.Facts := ⟨by decide⟩
/-- The shape fact of the precondition, read of the whole arrays. -/
theorem preFactsR : Cert.Pre_finite_qk_ReferenceIdeal.Facts := ⟨by decide⟩

/-- An extended real whose absolute value is below plus infinity is a real. -/
theorem real_of_abs_lt (x : EReal) (h : max x (-x) < ⊤) : ∃ r : ℝ, x = (r : EReal) := by
  have h1 : x < ⊤ := lt_of_le_of_lt (le_max_left _ _) h
  have h2 : -x < ⊤ := lt_of_le_of_lt (le_max_right _ _) h
  refine ⟨x.toReal, (EReal.coe_toReal h1.ne fun hb => ?_).symm⟩
  rw [hb, EReal.neg_bot] at h2
  exact lt_irrefl _ h2

/-- Plus infinity as the precondition writes it. -/
theorem ofBits_top : Ideal.ofBits .f32 0x7F800000#32 = (⊤ : EReal) := by
  simp [Ideal.ofBits, Ideal.ieee]

attribute [local instance] preFacts in
/-- Where the precondition's function is one, the query and the key there are reals. -/
theorem real_of_pre (X Y Z : FVec Ideal S2x256x8x64 .f32) (i : S2x256x8x64.Idx)
    (h : Cert.Pre_finite_qk_KernelIdeal.fn (F := Ideal) X Y Z = fun _ => 1#1) :
    (∃ r : ℝ, X i = (r : EReal)) ∧ ∃ r : ℝ, Y i = (r : EReal) := by
  have h' := congrFun h i
  unfold Cert.Pre_finite_qk_KernelIdeal.fn at h'
  pointwise at h'
  rw [ofBits_top] at h'
  have hb : ∀ u v : Bool, IntOp.andi (BitVec.ofBool u) (BitVec.ofBool v) = 1#1 → u = true ∧ v = true := by decide
  obtain ⟨hX, hY⟩ := hb _ _ h'
  exact ⟨real_of_abs_lt _ (of_decide_eq_true hX), real_of_abs_lt _ (of_decide_eq_true hY)⟩

/-! ## The scores are real -/

/-- A scaled inner product of reals is a real. -/
theorem score_real (x y : Fin 64 → EReal) (hx : ∀ e, ∃ r : ℝ, x e = (r : EReal)) (hy : ∀ e, ∃ r : ℝ, y e = (r : EReal)) :
    ∃ r : ℝ, (∑ e : Fin 64, x e * y e) * scale = (r : EReal) := by
  choose p hp using hx
  choose q hq using hy
  refine ⟨(∑ e : Fin 64, p e * q e) * (1 / 8), ?_⟩
  rw [scale_real, EReal.coe_mul, coe_sum]
  simp only [hp, hq, EReal.coe_mul]

/-- A place in the whole array is a row of some device's block. -/
theorem exists_pos (t : Fin 4096) : ∃ (c : Fin 16) (a : Fin 256), t = pos c a :=
  ⟨⟨t.val / 256, by omega⟩, ⟨t.val % 256, by omega⟩, Fin.ext (by show t.val = t.val / 256 * 256 + t.val % 256; omega)⟩

attribute [local instance] preFacts in
/-- Under the precondition all scores of the whole arrays are reals. -/
theorem scores_real {m : (ℓ : Loc nD τ sig) → Buf (Elt Ideal) ℓ} {Q K W : FVec Ideal ⟨4, ![2, 4096, 8, 64]⟩ .f32}
    (H : Parts m Q K W) (hp : Cert.Pre_KernelIdeal_finite_qk_KernelIdeal m) (b : Fin 2) (h : Fin 8) (a t : Fin 4096) :
    ∃ r : ℝ, (∑ e : Fin 64, Q (ix4 b a h e) * K (ix4 b t h e)) * scale = (r : EReal) := by
  refine score_real _ _ (fun e => ?_) fun e => ?_
  · obtain ⟨c, u, rfl⟩ := exists_pos a
    rw [← block_at c Q, ← H.q c]
    exact (real_of_pre _ _ _ _ (hp c)).1
  · obtain ⟨c, u, rfl⟩ := exists_pos t
    rw [← block_at c K, ← H.k c]
    exact (real_of_pre _ _ _ _ (hp c)).2

/-! ## The claim -/

attribute [local instance] preFacts in
/-- Each device's result is its block of the reference's. -/
theorem result_block {m : (ℓ : Loc nD τ sig) → Buf (Elt Ideal) ℓ} {Q K W : FVec Ideal ⟨4, ![2, 4096, 8, 64]⟩ .f32}
    (H : Parts m Q K W) (hp : Cert.Pre_KernelIdeal_finite_qk_KernelIdeal m) (c : Dev nD) :
    B3 m c (Proc.devRef .tc main_v12)
      = Layout.block ⟨4, ![2, 256, 8, 64]⟩ ⟨4, ![2, 4096, 8, 64]⟩ 1 16 c (rO Q K W) := by
  funext (i : S2x256x8x64.Idx)
  have hi : i = ix4 (i 0 : Fin 2) (i 1 : Fin 256) (i 2 : Fin 8) (i 3 : Fin 64) := by
    funext t; match t with | 0 => rfl | 1 => rfl | 2 => rfl | 3 => rfl
  rw [hi]
  generalize (i 0 : Fin 2) = b, (i 1 : Fin 256) = a, (i 2 : Fin 8) = h, (i 3 : Fin 64) = d
  choose s hs using scores_real H hp b h (pos c a)
  exact (result_att H c b h d a s hs).trans
    ((rO_att Q K W b h (pos c a) d s hs).symm.trans (block_at c (rO Q K W) b h d a).symm)

attribute [local instance] preFacts in
/-- The kernel on sixteen devices and the reference on one: each device's result is its block of the reference's. -/
theorem algebraic : Cert.algebraic_KernelIdeal_ReferenceIdeal_pre_finite_qk_KernelIdeal := by
  intro m g m' g' hp hm
  have H : Parts m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) :=
    ⟨fun c => (hm c).1, fun c => (hm c).2.1, fun c => (hm c).2.2⟩
  refine ⟨rO (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun r hr c => ?_) (run_main (F := Ideal) m g)
    obtain ⟨h0, h1, h2, h3⟩ := hr.1 c
    exact ⟨h0.trans (result_block H hp c), h1, h2, h3⟩
  · refine (θ_run Cert.ReferenceIdeal.defs _ _).mono (fun r hr => ?_) (Cert.ReferenceIdeal.Value.run (F := Ideal) m' g')
    obtain ⟨h0, h1, h2, h3⟩ := hr 0
    exact ⟨h0, h1, h2, h3⟩

end Cert.Ring

end
-- ==== Proof.lean ====
/-
The certificate of this problem's ring attention: its claims, put together from the modules under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebra

@[expose] public section

noncomputable section

namespace Cert.Proof

open Idealize.ShloMosaic Idealize.SL.Sem

/-- All claims, at the shape facts of the three programs and of the precondition. -/
theorem claim : Cert.Claim := ⟨Cert.Kernel.Gen.facts, Cert.KernelIdeal.Gen.facts, Cert.ReferenceIdeal.Gen.facts,
  Cert.Ring.preFacts, Cert.Ring.preFactsR, Cert.Ring.frame_kernel, Cert.Ring.frame_ideal,
  fun m g _ => Cert.Ring.frame_ideal m g trivial, Cert.Ring.frame_reference,
  fun m g _ => Cert.Ring.frame_reference m g trivial, trivial, Cert.Ring.algebraic⟩

end Cert.Proof

end
